-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S5x512x256 : Shape := ⟨3, ![5, 512, 256]⟩
abbrev S5x4 : Shape := ⟨2, ![5, 4]⟩
abbrev S_ : Shape := ⟨0, ![]⟩
abbrev S128x256 : Shape := ⟨2, ![128, 256]⟩
abbrev S1x1 : Shape := ⟨2, ![1, 1]⟩
abbrev S1x128x256 : Shape := ⟨3, ![1, 128, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S512x256, .f32⟩
  | .local _ .vmem, ⟨0, _⟩ => ⟨S512x256, .bf16⟩
  | .local _ .vmem, ⟨1, _⟩ => ⟨S512x256, .f32⟩
  | .local _ .vmem, ⟨2, _⟩ => ⟨S512x256, .bf16⟩
  | .local _ .vmem, ⟨3, _⟩ => ⟨S5x512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v24 : BitVec 32 := Scalar.xori v2 c1_i32_16
  let c1_i32_18 : BitVec 32 := 1#32
  let v25 : BitVec 32 := Scalar.muli v24 c1_i32_18
  let v26 : BitVec 32 := Scalar.addi c0_i32 v25
  v26.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_19 : BitVec 32 := 3#32
  let v27 : BitVec 32 := Scalar.xori v2 c3_i32_19
  let c1_i32_21 : BitVec 32 := 1#32
  let v28 : BitVec 32 := Scalar.muli v27 c1_i32_21
  let v29 : BitVec 32 := Scalar.addi c0_i32_22 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_23 : BitVec 32 := 2#32
  let v30 : BitVec 32 := Scalar.xori v2 c2_i32_23
  let c1_i32_25 : BitVec 32 := 1#32
  let v31 : BitVec 32 := Scalar.muli v30 c1_i32_25
  let v32 : BitVec 32 := Scalar.addi c0_i32_26 v31
  v32.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v33 : BitVec 32 := Scalar.xori v2 c4_i32_27
  let c1_i32_29 : BitVec 32 := 1#32
  let v34 : BitVec 32 := Scalar.muli v33 c1_i32_29
  let v35 : BitVec 32 := Scalar.addi c0_i32_30 v34
  v35.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_31 : BitVec 32 := 8#32
  let v36 : BitVec 32 := Scalar.xori v2 c8_i32_31
  let c1_i32_33 : BitVec 32 := 1#32
  let v37 : BitVec 32 := Scalar.muli v36 c1_i32_33
  let v38 : BitVec 32 := Scalar.addi c0_i32_34 v37
  v38.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_43 : BitVec 32 := 1#32
  let v44 : BitVec 32 := Scalar.muli v3 c1_i32_43
  let v45 : BitVec 32 := Scalar.addi c0_i32_44 v44
  v45.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_54 : BitVec 32 := 1#32
  let v53 : BitVec 32 := Scalar.muli v7 c1_i32_54
  let v54 : BitVec 32 := Scalar.addi c0_i32_55 v53
  v54.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v11 : BitVec 32 := Scalar.xori v2 c2_i32
  let c1_i32_65 : BitVec 32 := 1#32
  let v62 : BitVec 32 := Scalar.muli v11 c1_i32_65
  let v63 : BitVec 32 := Scalar.addi c0_i32_66 v62
  v63.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.xori v2 c1_i32_1
  let c1_i32_79 : BitVec 32 := 1#32
  let v76 : BitVec 32 := Scalar.muli v4 c1_i32_79
  let v77 : BitVec 32 := Scalar.addi c0_i32_80 v76
  v77.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_4 : BitVec 32 := 3#32
  let v8 : BitVec 32 := Scalar.xori v2 c3_i32_4
  let c1_i32_89 : BitVec 32 := 1#32
  let v85 : BitVec 32 := Scalar.muli v8 c1_i32_89
  let v86 : BitVec 32 := Scalar.addi c0_i32_90 v85
  v86.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_7 : BitVec 32 := 2#32
  let v12 : BitVec 32 := Scalar.xori v2 c2_i32_7
  let c1_i32_100 : BitVec 32 := 1#32
  let v94 : BitVec 32 := Scalar.muli v12 c1_i32_100
  let v95 : BitVec 32 := Scalar.addi c0_i32_101 v94
  v95.toNat
def k0_dev12 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.xori v2 c1_i32_2
  let c1_i32_114 : BitVec 32 := 1#32
  let v108 : BitVec 32 := Scalar.muli v5 c1_i32_114
  let v109 : BitVec 32 := Scalar.addi c0_i32_115 v108
  v109.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_5 : BitVec 32 := 3#32
  let v9 : BitVec 32 := Scalar.xori v2 c3_i32_5
  let c1_i32_124 : BitVec 32 := 1#32
  let v117 : BitVec 32 := Scalar.muli v9 c1_i32_124
  let v118 : BitVec 32 := Scalar.addi c0_i32_125 v117
  v118.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8 : BitVec 32 := 2#32
  let v13 : BitVec 32 := Scalar.xori v2 c2_i32_8
  let c1_i32_135 : BitVec 32 := 1#32
  let v126 : BitVec 32 := Scalar.muli v13 c1_i32_135
  let v127 : BitVec 32 := Scalar.addi c0_i32_136 v126
  v127.toNat
def k0_dev15 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.xori v2 c1_i32_3
  let c1_i32_149 : BitVec 32 := 1#32
  let v140 : BitVec 32 := Scalar.muli v6 c1_i32_149
  let v141 : BitVec 32 := Scalar.addi c0_i32_150 v140
  v141.toNat
def k0_dev16 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_6 : BitVec 32 := 3#32
  let v10 : BitVec 32 := Scalar.xori v2 c3_i32_6
  let c1_i32_159 : BitVec 32 := 1#32
  let v149 : BitVec 32 := Scalar.muli v10 c1_i32_159
  let v150 : BitVec 32 := Scalar.addi c0_i32_160 v149
  v150.toNat
def k0_dev17 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_9 : BitVec 32 := 2#32
  let v14 : BitVec 32 := Scalar.xori v2 c2_i32_9
  let c1_i32_170 : BitVec 32 := 1#32
  let v158 : BitVec 32 := Scalar.muli v14 c1_i32_170
  let v159 : BitVec 32 := Scalar.addi c0_i32_171 v158
  v159.toNat
def k0_dev18 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v15 : BitVec 32 := Scalar.xori v2 c4_i32
  let c1_i32_255 : BitVec 32 := 1#32
  let v216 : BitVec 32 := Scalar.muli v15 c1_i32_255
  let v217 : BitVec 32 := Scalar.addi c0_i32_256 v216
  v217.toNat
def k0_dev19 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_10 : BitVec 32 := 4#32
  let v16 : BitVec 32 := Scalar.xori v2 c4_i32_10
  let c1_i32_342 : BitVec 32 := 1#32
  let v274 : BitVec 32 := Scalar.muli v16 c1_i32_342
  let v275 : BitVec 32 := Scalar.addi c0_i32_343 v274
  v275.toNat
def k0_dev20 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v17 : BitVec 32 := Scalar.xori v2 c4_i32_11
  let c1_i32_429 : BitVec 32 := 1#32
  let v332 : BitVec 32 := Scalar.muli v17 c1_i32_429
  let v333 : BitVec 32 := Scalar.addi c0_i32_430 v332
  v333.toNat
def k0_dev21 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_12 : BitVec 32 := 4#32
  let v18 : BitVec 32 := Scalar.xori v2 c4_i32_12
  let c1_i32_516 : BitVec 32 := 1#32
  let v390 : BitVec 32 := Scalar.muli v18 c1_i32_516
  let v391 : BitVec 32 := Scalar.addi c0_i32_517 v390
  v391.toNat
def k0_dev22 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v19 : BitVec 32 := Scalar.xori v2 c8_i32
  let c1_i32_554 : BitVec 32 := 1#32
  let v418 : BitVec 32 := Scalar.muli v19 c1_i32_554
  let v419 : BitVec 32 := Scalar.addi c0_i32_555 v418
  v419.toNat
def k0_dev23 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_13 : BitVec 32 := 8#32
  let v20 : BitVec 32 := Scalar.xori v2 c8_i32_13
  let c1_i32_593 : BitVec 32 := 1#32
  let v446 : BitVec 32 := Scalar.muli v20 c1_i32_593
  let v447 : BitVec 32 := Scalar.addi c0_i32_594 v446
  v447.toNat
def k0_dev24 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_14 : BitVec 32 := 8#32
  let v21 : BitVec 32 := Scalar.xori v2 c8_i32_14
  let c1_i32_632 : BitVec 32 := 1#32
  let v474 : BitVec 32 := Scalar.muli v21 c1_i32_632
  let v475 : BitVec 32 := Scalar.addi c0_i32_633 v474
  v475.toNat
def k0_dev25 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_15 : BitVec 32 := 8#32
  let v22 : BitVec 32 := Scalar.xori v2 c8_i32_15
  let c1_i32_671 : BitVec 32 := 1#32
  let v502 : BitVec 32 := Scalar.muli v22 c1_i32_671
  let v503 : BitVec 32 := Scalar.addi c0_i32_672 v502
  v503.toNat
def k0_dev26 (d0 : Dev nD) : Nat :=
  let c0_i32_810_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_807_r0 : BitVec 32 := 1#32
  let v632_r0 : BitVec 32 := Scalar.xori v2 c1_i32_807_r0
  let c1_i32_809_r0 : BitVec 32 := 1#32
  let v633_r0 : BitVec 32 := Scalar.muli v632_r0 c1_i32_809_r0
  let v634_r0 : BitVec 32 := Scalar.addi c0_i32_810_r0 v633_r0
  v634_r0.toNat
def k0_dev27 (d0 : Dev nD) : Nat :=
  let c0_i32_814_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_811_r0 : BitVec 32 := 3#32
  let v635_r0 : BitVec 32 := Scalar.xori v2 c3_i32_811_r0
  let c1_i32_813_r0 : BitVec 32 := 1#32
  let v636_r0 : BitVec 32 := Scalar.muli v635_r0 c1_i32_813_r0
  let v637_r0 : BitVec 32 := Scalar.addi c0_i32_814_r0 v636_r0
  v637_r0.toNat
def k0_dev28 (d0 : Dev nD) : Nat :=
  let c0_i32_818_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_815_r0 : BitVec 32 := 2#32
  let v638_r0 : BitVec 32 := Scalar.xori v2 c2_i32_815_r0
  let c1_i32_817_r0 : BitVec 32 := 1#32
  let v639_r0 : BitVec 32 := Scalar.muli v638_r0 c1_i32_817_r0
  let v640_r0 : BitVec 32 := Scalar.addi c0_i32_818_r0 v639_r0
  v640_r0.toNat
def k0_dev29 (d0 : Dev nD) : Nat :=
  let c0_i32_822_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_819_r0 : BitVec 32 := 4#32
  let v641_r0 : BitVec 32 := Scalar.xori v2 c4_i32_819_r0
  let c1_i32_821_r0 : BitVec 32 := 1#32
  let v642_r0 : BitVec 32 := Scalar.muli v641_r0 c1_i32_821_r0
  let v643_r0 : BitVec 32 := Scalar.addi c0_i32_822_r0 v642_r0
  v643_r0.toNat
def k0_dev30 (d0 : Dev nD) : Nat :=
  let c0_i32_826_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_823_r0 : BitVec 32 := 8#32
  let v644_r0 : BitVec 32 := Scalar.xori v2 c8_i32_823_r0
  let c1_i32_825_r0 : BitVec 32 := 1#32
  let v645_r0 : BitVec 32 := Scalar.muli v644_r0 c1_i32_825_r0
  let v646_r0 : BitVec 32 := Scalar.addi c0_i32_826_r0 v645_r0
  v646_r0.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩
abbrev S16x512x256 : Shape := ⟨3, ![16, 512, 256]⟩
abbrev S_ : Shape := ⟨0, ![]⟩
abbrev S512x256 : Shape := ⟨2, ![512, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S16x512x256, .bf16⟩
  | .hbm, ⟨2, _⟩ => ⟨S16x512x256, .f32⟩
  | .hbm, ⟨3, _⟩ => ⟨S_, .f32⟩
  | .hbm, ⟨4, _⟩ => ⟨S512x256, .f32⟩
  | .hbm, ⟨5, _⟩ => ⟨S512x256, .bf16⟩
  | .hbm, ⟨6, _⟩ => ⟨S_, .bf16⟩
  | .hbm, ⟨7, _⟩ => ⟨S512x256, .bf16⟩
  | .hbm, ⟨8, _⟩ => ⟨S512x256, .bf16⟩
  | .hbm, ⟨9, _⟩ => ⟨S512x256, .bf16⟩
  | .hbm, ⟨10, _⟩ => ⟨S512x256, .bf16⟩
  | .hbm, ⟨11, _⟩ => ⟨S512x256, .bf16⟩
  | .hbm, ⟨12, _⟩ => ⟨S512x256, .bf16⟩
  | .hbm, ⟨13, _⟩ => ⟨S512x256, .bf16⟩
  | .hbm, ⟨14, _⟩ => ⟨S512x256, .bf16⟩
  | .hbm, ⟨15, _⟩ => ⟨S512x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.Flat.lean ====
/-
  The kernel's body as a chain of the same few steps over its four row chunks.

  The body handles the array in four chunks of 128 rows. This module names the views it uses as functions of the slot
  and the chunk, names the steps a chunk goes through (`loadStep`, `sumStep`, `addStep`, `lastStep`), and states that the
  body is their chain (`body_flat`): the rest of the proof treats each step once, for every chunk.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Butterfly

open Cert.KernelIdeal Cert.KernelIdeal.Gen
open Idealize.ShloMosaic Idealize.ShloMosaic.TcCoe Idealize.SL.Sem

variable {F : FTy → Type} [FloatOps F]

/-! ## The memrefs -/

/-- The device's block of the argument, staged. -/
abbrev xM : Memref sig .tc .vmem S512x256 .bf16 := Memref.whole cc0_stg0_0
/-- The result, staged. -/
abbrev oM : Memref sig .tc .vmem S512x256 .f32 := Memref.whole cc0_stg1_0
/-- The running sum. -/
abbrev aM : Memref sig .tc .vmem S512x256 .bf16 := Memref.whole cc0_scratch0
/-- The landing buffer: five slots of the array's size. -/
abbrev rM : Memref sig .tc .vmem S5x512x256 .bf16 := Memref.whole cc0_scratch1

theorem inbA (h : Fin 4) : ∀ a, (![128 * h.val, 0] : Fin 2 → Nat) a + S128x256.size a ≤ S512x256.size a := by revert h; decide
theorem inbR (s : Fin 5) (h : Fin 4) : ∀ a, (![s.val, 128 * h.val, 0] : Fin 3 → Nat) a + S1x128x256.size a ≤ S5x512x256.size a := by
  revert s h; decide
theorem inbS (s : Fin 5) (h : Fin 4) : ∀ a, (![s.val, h.val] : Fin 2 → Nat) a + S1x1.size a ≤ S5x4.size a := by revert s h; decide

/-- Chunk `h` of an array: its rows 128 h to 128 h + 127. -/
abbrev rectA (h : Fin 4) : Rect S512x256 := Rect.unit (s := S512x256) ![128 * h.val, 0] S128x256.size (inbA h)
/-- Chunk `h` of slot `s` of the landing buffer. -/
abbrev rectR (s : Fin 5) (h : Fin 4) : Rect S5x512x256 := Rect.unit (s := S5x512x256) ![s.val, 128 * h.val, 0] S1x128x256.size (inbR s h)
abbrev rectS (s : Fin 5) (h : Fin 4) : Rect S5x4 := Rect.unit (s := S5x4) ![s.val, h.val] S1x1.size (inbS s h)

/-- Chunk `h` of the running sum: what a transfer of slot `s`, chunk `h` reads. -/
abbrev aV (h : Fin 4) : Memref sig .tc .vmem S128x256 .bf16 := aM.slice (rectA h) (fun _ => rfl)
/-- Chunk `h` of slot `s` of the landing buffer: what a transfer of slot `s`, chunk `h` writes. -/
abbrev rV (s : Fin 5) (h : Fin 4) : Memref sig .tc .vmem S128x256 .bf16 := (rM.slice (rectR s h) (fun _ => rfl)).squeeze S128x256 squeezes_S1x128x256_S128x256
/-- The semaphore the sender of slot `s`, chunk `h` waits for. -/
abbrev sndS (s : Fin 5) (h : Fin 4) : DmaSems sig S_ := (cc0_scratch2.slice (rectS s h)).squeeze S_ squeezes_S1x1_S_
/-- The semaphore the receiver of slot `s`, chunk `h` waits for. -/
abbrev rcvS (s : Fin 5) (h : Fin 4) : DmaSems sig S_ := (cc0_scratch3.slice (rectS s h)).squeeze S_ squeezes_S1x1_S_
/-- The runtime's barrier semaphore. -/
abbrev barS : Sem sig := (SemArray.scalar (sig.barrier 0 rfl) : Sems sig S_).sem
/-- The semaphore of the handshake at the end. -/
abbrev endS : Sem sig := (cc0_scoped0 : Sems sig S_).sem

theorem packedA (h : Fin 4) : (rectA h).PackedRows (EltTy.packing .bf16) := by
  fin_cases h
  exacts [packedbf16_S512x256_S128x256_0_0, packedbf16_S512x256_S128x256_128_0, packedbf16_S512x256_S128x256_256_0, packedbf16_S512x256_S128x256_384_0]
theorem wordsA (h : Fin 4) : (rectA h).WholeWords (EltTy.packing .bf16) := by
  fin_cases h
  exacts [wordsbf16_S512x256_S128x256_0_0, wordsbf16_S512x256_S128x256_128_0, wordsbf16_S512x256_S128x256_256_0, wordsbf16_S512x256_S128x256_384_0]
theorem wordsR (s : Fin 5) (h : Fin 4) : (rectR s h).WholeWords (EltTy.packing .bf16) := by revert s h; decide

theorem exactA (h : Fin 4) : (aV h).view.WordExact := (Memref.isWhole_whole cc0_scratch0).wordExact_slice rfl _ (wordsA h)
theorem exactR (s : Fin 5) (h : Fin 4) : (rV s h).view.WordExact :=
  ((Memref.isWhole_whole cc0_scratch1).wordExact_slice rfl _ (wordsR s h)).reshape _ _

/-! ## The steps -/

abbrev P (F : FTy → Type) [FloatOps F] : Type 1 := Prog (TpuEff nD τ sig (Elt F) Λ₀ .tc) PUnit

/-- A signal of one unit on device `n`'s semaphore. -/
def sigStep (sm : Sem sig) (n : Dev nD) (k : P F) : P F := (semSignalWord n sm 1#32 : P F).bind fun _ => k
/-- A wait for five units on one's own semaphore. -/
def hearStep (sm : Sem sig) (k : P F) : P F := (semWaitWord sm 5#32 : P F).bind fun _ => k

/-- Send chunk `h` of the running sum to device `n`, into slot `s` there. -/
def sendStep (s : Fin 5) (h : Fin 4) (n : Dev nD) (k : P F) : P F :=
  Prog.op (.enqueueDma (aV h) (.remote (Dev.tc n) (rV s h) (.dma (sndS s h).sem)) (.dma (rcvS s h).sem) (exactA h) (exactR s h) ⟨⟨rfl, Or.inl rfl⟩, trivial⟩) fun _ => k

/-- Wait until the chunk sent has left, and until the chunk of that slot has landed here. -/
def waitStep (s : Fin 5) (h : Fin 4) (k : P F) : P F :=
  Prog.op (.waitDma2 (sndS s h).sem (rV s h) (aV h) (exactR s h) (exactA h)) fun _ =>
  Prog.op (.waitDma2 (rcvS s h).sem (aV h) (rV s h) (exactA h) (exactR s h)) fun _ => k

/-- Read chunk `h` of the running sum. -/
def readA (h : Fin 4) (k : Vec F S128x256 .bf16 → P F) : P F := Prog.op (.load aM (rectA h).toLoadRect (View.loadsAt_vmem h_S128x256)) k
/-- Read chunk `h` of slot `s`. -/
def readR (s : Fin 5) (h : Fin 4) (k : Vec F S1x128x256 .bf16 → P F) : P F := Prog.op (.load rM (rectR s h).toLoadRect (View.loadsAt_vmem h_S1x128x256)) k
/-- Write chunk `h` of the running sum (it is read first, and what was read dropped). -/
def writeA (h : Fin 4) (v : FVec F S128x256 .bf16) (k : P F) : P F :=
  readA h fun _ =>
  Prog.op (.store aM (rectA h) v Finset.univ (View.stores_vmem h_S128x256 ((Memref.isWhole_whole cc0_scratch0).storeExact_slice rfl _ (packedA h)) (fun _ => rfl)) (.inl rfl)) fun _ => k
/-- Write chunk `h` of the result (it is read first, and what was read dropped). -/
def writeO (h : Fin 4) (v : FVec F S128x256 .f32) (k : P F) : P F :=
  Prog.op (.load oM (rectA h).toLoadRect (View.loadsAt_vmem h_S128x256)) fun _ =>
  Prog.op (.store oM (rectA h) v Finset.univ (View.stores_vmem_bits_univ h_S128x256 rfl) (.inl rfl)) fun _ => k

/-- Chunk `h` at the start: it becomes the running sum, and goes to the three devices of slots 0, 1, 2. -/
def loadStep (h : Fin 4) (n0 n1 n2 : Dev nD) (k : P F) : P F :=
  Prog.op (.load xM (rectA h).toLoadRect (View.loadsAt_vmem h_S128x256)) fun v =>
  writeA h (k0_pay1 v) <| sendStep 0 h n0 <| sendStep 1 h n1 <| sendStep 2 h n2 k
/-- Chunk `h` after the first exchange: the three chunks received are added, the sum goes to the device of slot 3. -/
def sumStep (h : Fin 4) (n3 : Dev nD) (k : P F) : P F :=
  waitStep 0 h <| waitStep 1 h <| waitStep 2 h <|
  readA h fun v => readR 0 h fun v0 => readR 1 h fun v1 => readR 2 h fun v2 =>
  writeA h (k0_pay6 v v0 v1 v2) <| sendStep 3 h n3 k
/-- Chunk `h` after the second exchange: the chunk received is added, the sum goes to the device of slot 4. -/
def addStep (h : Fin 4) (n4 : Dev nD) (k : P F) : P F :=
  waitStep 3 h <| readA h fun v => readR 3 h fun v3 => writeA h (k0_pay14 v v3) <| sendStep 4 h n4 k
/-- Chunk `h` after the last exchange: the chunk received is added and the result computed from the sum. -/
def lastStep (h : Fin 4) (k : P F) : P F :=
  waitStep 4 h <| readA h fun v => readR 4 h fun v4 => writeA h (k0_pay18 v v4) <| readA h fun w => writeO h (k0_pay19 w) k

/-- The whole body on device `c`. -/
def flat (c : Dev nD) : P F :=
  sigStep barS ⟨k0_dev1 c, k0_dev1_lt c⟩ <| sigStep barS ⟨k0_dev2 c, k0_dev2_lt c⟩ <| sigStep barS ⟨k0_dev3 c, k0_dev3_lt c⟩ <|
  sigStep barS ⟨k0_dev4 c, k0_dev4_lt c⟩ <| sigStep barS ⟨k0_dev5 c, k0_dev5_lt c⟩ <| hearStep barS <|
  loadStep 0 ⟨k0_dev6 c, k0_dev6_lt c⟩ ⟨k0_dev7 c, k0_dev7_lt c⟩ ⟨k0_dev8 c, k0_dev8_lt c⟩ <|
  loadStep 1 ⟨k0_dev9 c, k0_dev9_lt c⟩ ⟨k0_dev10 c, k0_dev10_lt c⟩ ⟨k0_dev11 c, k0_dev11_lt c⟩ <|
  loadStep 2 ⟨k0_dev12 c, k0_dev12_lt c⟩ ⟨k0_dev13 c, k0_dev13_lt c⟩ ⟨k0_dev14 c, k0_dev14_lt c⟩ <|
  loadStep 3 ⟨k0_dev15 c, k0_dev15_lt c⟩ ⟨k0_dev16 c, k0_dev16_lt c⟩ ⟨k0_dev17 c, k0_dev17_lt c⟩ <|
  sumStep 0 ⟨k0_dev18 c, k0_dev18_lt c⟩ <| sumStep 1 ⟨k0_dev19 c, k0_dev19_lt c⟩ <|
  sumStep 2 ⟨k0_dev20 c, k0_dev20_lt c⟩ <| sumStep 3 ⟨k0_dev21 c, k0_dev21_lt c⟩ <|
  addStep 0 ⟨k0_dev22 c, k0_dev22_lt c⟩ <| addStep 1 ⟨k0_dev23 c, k0_dev23_lt c⟩ <|
  addStep 2 ⟨k0_dev24 c, k0_dev24_lt c⟩ <| addStep 3 ⟨k0_dev25 c, k0_dev25_lt c⟩ <|
  lastStep 0 <| lastStep 1 <| lastStep 2 <| lastStep 3 <|
  sigStep endS ⟨k0_dev26 c, k0_dev26_lt c⟩ <| sigStep endS ⟨k0_dev27 c, k0_dev27_lt c⟩ <| sigStep endS ⟨k0_dev28 c, k0_dev28_lt c⟩ <|
  sigStep endS ⟨k0_dev29 c, k0_dev29_lt c⟩ <| sigStep endS ⟨k0_dev30 c, k0_dev30_lt c⟩ <| hearStep endS <| Prog.ret ⟨⟩

set_option maxRecDepth 65536 in
/-- The kernel's body reads its device's number and then is that chain. -/
theorem body_flat :
    (cc0_body xM (Memref.isWhole_whole _) oM (Memref.isWhole_whole _) aM (Memref.isWhole_whole _) rM (Memref.isWhole_whole _) cc0_scratch2 cc0_scratch3 cc0_scoped0 : P F)
      = Prog.op .deviceId fun c => flat c := by
  rw [cc0_body_eq_skeleton]; rfl

end Cert.Butterfly

end
-- ==== Proof.Protocol.lean ====
/-
  The exchange protocol of the butterfly sum.

  Sixteen devices exchange row chunks in three stages. In the first stage a device exchanges with the three other devices
  of its group of four (slots 0, 1, 2), in the second with the device whose number differs in bit 2 (slot 3), in the third
  with the one that differs in bit 3 (slot 4). This module names the peers, the chunk contents at each stage, the
  semaphore cells, and the schedule: which payment on which cell hands over which piece of memory.
-/
module

public import proofs.«01_k».proof.Proof.Flat
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The peers -/

/-- The bits in which a device's number differs from its peer's of slot `s`. -/
def mask : Fin 5 → ℕ
  | 0 => 1 | 1 => 3 | 2 => 2 | 3 => 4 | 4 => 8

/-- The device that device `c` exchanges with in slot `s`. -/
def peer (s : Fin 5) (c : Dev nD) : Dev nD := ⟨(c.val ^^^ mask s) % 16, Nat.mod_lt _ (by decide)⟩

/-- A peer's peer is the device itself. -/
theorem peer_peer (s : Fin 5) (c : Dev nD) : peer s (peer s c) = c := by revert s c; decide

/-- Going to the peer is a bijection of the devices. -/
def peerE (s : Fin 5) : Dev nD ≃ Dev nD := ⟨peer s, peer s, peer_peer s, peer_peer s⟩

/-- The stage a slot belongs to. -/
def st : Fin 5 → ℕ
  | 0 => 0 | 1 => 0 | 2 => 0 | 3 => 1 | 4 => 2

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the argument, as staged. -/
def xstg (c : Dev nD) : (cc0_stg0_0 : Ref sig .tc).ty.Contents (Elt F) :=
  (win0_0.blk (0 : Fin 1)).view.read (Elt F) (m ((c : Thread nD τ).loc main_arg0))

/-- Chunk `h` of the running sum on device `c` after a number of stages. -/
def B : ℕ → Dev nD → Fin 4 → FVec F S128x256 .bf16
  | 0, c, h => (xM : Memref sig .tc .vmem S512x256 .bf16).view.readAt (Elt F) (rectA h).toLoadRect (xstg m c)
  | 1, c, h => addf (addf (addf (B 0 c h) (B 0 (peer 0 c) h)) (B 0 (peer 1 c) h)) (B 0 (peer 2 c) h)
  | 2, c, h => addf (B 1 c h) (B 1 (peer 3 c) h)
  | n + 3, c, h => addf (B 2 c h) (B 2 (peer 4 c) h)

/-- Chunk `h` of the result on device `c`. -/
def outC (c : Dev nD) (h : Fin 4) : FVec F S128x256 .f32 := k0_pay19 (B m 3 c h)

/-! ## The resources -/

/-- Ghost state of the exchange: one duty name per slot. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The barrier's cell, the closing handshake's, and the two of slot `s`, chunk `h`. -/
abbrev barC (c : Dev nD) : GSem nD τ sig := ((c : Thread nD τ), .reg barS)
abbrev endC (c : Dev nD) : GSem nD τ sig := ((c : Thread nD τ), .reg endS)
abbrev sndC (c : Dev nD) (s : Fin 5) (h : Fin 4) : GSem nD τ sig := ((c : Thread nD τ), .dma (sndS s h).sem)
abbrev rcvC (c : Dev nD) (s : Fin 5) (h : Fin 4) : GSem nD τ sig := ((c : Thread nD τ), .dma (rcvS s h).sem)

/-- What one chunk's transfer credits. -/
def N : ℕ := (rV 0 0).view.dmaCredit
theorem N_pos : 0 < N := View.dmaCredit_pos _ (by decide)

/-- The share of the running sum's chunk that a transfer of slot `s` borrows: the three of the first stage read it at the
    same time. -/
def shr : Fin 5 → PosShare TreeShare
  | 0 => fullShare.left | 1 => fullShare.right.left | 2 => fullShare.right.right | 3 => fullShare | 4 => fullShare

/-- Chunk `h` of slot `s` of device `c`'s landing buffer, at any contents. -/
def lnd (c : Dev nD) (s : Fin 5) (h : Fin 4) : sProp 𝕄 :=
  iprop(∃ f : Buf (Elt F) ((rV s h).view.loc (c : Thread nD τ)), (rV s h).view.loc (c : Thread nD τ) ↦[(rV s h).view.set]{fullShare} f)
/-- What is handed over by the peer of slot `s` when it enters: that slot of its landing buffer. -/
def barPay (c : Dev nD) (s : Fin 5) : sProp 𝕄 := bigSep Finset.univ fun h : Fin 4 => lnd (peer s c) s h
/-- What comes back when a transfer has left: the share of the chunk it read. -/
def sndPay (c : Dev nD) (s : Fin 5) (h : Fin 4) : sProp 𝕄 := owns (c : Thread nD τ) (aV h) (shr s) (B m (st s) c h)
/-- What comes when a transfer has landed: the landing place, holding the peer's chunk. -/
def rcvPay (c : Dev nD) (s : Fin 5) (h : Fin 4) : sProp 𝕄 := owns (c : Thread nD τ) (rV s h) fullShare (B m (st s) (peer s c) h)

omit [FloatOps F] in
instance lnd_storable (c : Dev nD) (s : Fin 5) (h : Fin 4) : BI.Storable (upEmb : UEmb _ 𝕄) (lnd (F := F) c s h) := by unfold lnd; infer_instance
omit [FloatOps F] in
instance barPay_storable (c : Dev nD) (s : Fin 5) : BI.Storable (upEmb : UEmb _ 𝕄) (barPay (F := F) c s) := by unfold barPay; infer_instance
instance sndPay_storable (c : Dev nD) (s : Fin 5) (h : Fin 4) : BI.Storable (upEmb : UEmb _ 𝕄) (sndPay m c s h) := by unfold sndPay; infer_instance
instance rcvPay_storable (c : Dev nD) (s : Fin 5) (h : Fin 4) : BI.Storable (upEmb : UEmb _ 𝕄) (rcvPay m c s h) := by unfold rcvPay; infer_instance

/-! ## The schedule -/

/-- The slot and the chunk of the `n`-th semaphore of a slot-by-chunk array. -/
def slotOf (n : ℕ) : Fin 5 := ⟨n / 4 % 5, Nat.mod_lt _ (by decide)⟩
def chunkOf (n : ℕ) : Fin 4 := ⟨n % 4, Nat.mod_lt _ (by decide)⟩

theorem snd_val (s : Fin 5) (h : Fin 4) : (sndS s h).sem.val = 2 + 4 * s.val + h.val := by revert s h; decide
theorem rcv_val (s : Fin 5) (h : Fin 4) : (rcvS s h).sem.val = 22 + 4 * s.val + h.val := by revert s h; decide
theorem end_ne_bar : (endS : Sem sig) ≠ barS := by decide
theorem slot_snd (s : Fin 5) (h : Fin 4) : slotOf ((sndS s h).sem.val - 2) = s ∧ chunkOf ((sndS s h).sem.val - 2) = h := by
  simp only [snd_val]; revert s h; decide
theorem slot_rcv (s : Fin 5) (h : Fin 4) : slotOf ((rcvS s h).sem.val - 22) = s ∧ chunkOf ((rcvS s h).sem.val - 22) = h := by
  simp only [rcv_val]; revert s h; decide

/-- The duties of a semaphore's only round: one per slot on the two regular ones, one on each of the exchange's. -/
def dutS : SemLoc sig → Finset (Fin 5)
  | .reg _ => Finset.univ
  | .dma q => if q.val < 2 then ∅ else {0}
def amtS : SemLoc sig → ℕ
  | .reg _ => 1
  | .dma _ => N
/-- What a payment on a regular semaphore of device `c` hands over; -/
def payR (c : Dev nD) (i : Sem sig) (d : Fin 5) : sProp 𝕄 := if i = barS then barPay c d else iprop(emp)
/-- on a transfer's semaphore; -/
def payD (c : Dev nD) (q : DmaSem sig) : sProp 𝕄 :=
  if q.val < 2 then iprop(emp)
  else if q.val < 22 then sndPay m c (slotOf (q.val - 2)) (chunkOf (q.val - 2))
  else rcvPay m c (slotOf (q.val - 22)) (chunkOf (q.val - 22))
/-- on any semaphore. -/
def payS (c : Dev nD) : SemLoc sig → Fin 5 → sProp 𝕄
  | .reg i, d => payR c i d
  | .dma q, _ => payD m c q

/-- Every cell has one round. -/
def Rd : Rounds.Schedule (GSem nD τ sig) (Fin 5) 𝕄 where
  duties g r := if r = 0 ∧ g.1.2 = .tc then dutS g.2 else ∅
  unitless _ := False
  amount g _ _ := amtS g.2
  payload g _ d := payS m g.1.1 g.2 d
  amount_pos g _ _ _ := by
    show 0 < amtS g.2
    cases g.2 with
    | reg i => exact Nat.one_pos
    | dma q => exact N_pos

instance Rd_payload_storable (g : GSem nD τ sig) (r : ℕ) (d : Fin 5) : BI.Storable (upEmb : UEmb _ 𝕄) ((Rd (F := F) m).payload g r d) := by
  show BI.Storable upEmb (payS m g.1.1 g.2 d)
  cases g.2 with
  | reg i => show BI.Storable upEmb (payR g.1.1 i d); unfold payR; split <;> infer_instance
  | dma q => show BI.Storable upEmb (payD m g.1.1 q); unfold payD; (repeat' split) <;> infer_instance

section Sched
variable (c : Dev nD) (s : Fin 5) (h : Fin 4)

theorem duties_tc (sm : SemLoc sig) : (Rd m).duties ((c : Thread nD τ), sm) 0 = dutS sm := by
  dsimp only [Rd]; exact if_pos ⟨rfl, rfl⟩
theorem duties_later (g : GSem nD τ sig) : ∀ r, 1 ≤ r → (Rd m).duties g r = ∅ := fun r hr => by
  dsimp only [Rd]; exact if_neg fun h => by omega
theorem dutS_snd : dutS (.dma (sndS s h).sem) = {0} := if_neg (by rw [snd_val]; omega)
theorem dutS_rcv : dutS (.dma (rcvS s h).sem) = {0} := if_neg (by rw [rcv_val]; omega)

theorem expect_reg (i : Sem sig) : (Rd m).expect ((c : Thread nD τ), .reg i) 0 = 5 := by
  unfold Schedule.expect Schedule.amountOf; rw [duties_tc]; rfl
theorem expect_snd : (Rd m).expect (sndC c s h) 0 = N := by
  unfold Schedule.expect Schedule.amountOf; rw [duties_tc, dutS_snd, Finset.sum_singleton]; rfl
theorem expect_rcv : (Rd m).expect (rcvC c s h) 0 = N := by
  unfold Schedule.expect Schedule.amountOf; rw [duties_tc, dutS_rcv, Finset.sum_singleton]; rfl

theorem payload_bar (r : ℕ) : (Rd m).payload (barC c) r s = barPay c s := by
  show payR c barS s = _; exact if_pos rfl
theorem payload_end (r : ℕ) : (Rd m).payload (endC c) r s = iprop(emp) := by
  show payR c endS s = _; exact if_neg end_ne_bar
theorem payload_snd (r : ℕ) (d : Fin 5) : (Rd m).payload (sndC c s h) r d = sndPay m c s h := by
  show payD m c (sndS s h).sem = _
  unfold payD; rw [if_neg (by rw [snd_val]; omega), if_pos (by rw [snd_val]; omega), (slot_snd s h).1, (slot_snd s h).2]
theorem payload_rcv (r : ℕ) (d : Fin 5) : (Rd m).payload (rcvC c s h) r d = rcvPay m c s h := by
  show payD m c (rcvS s h).sem = _
  unfold payD; rw [if_neg (by rw [rcv_val]; omega), if_neg (by rw [rcv_val]; omega), (slot_rcv s h).1, (slot_rcv s h).2]

/-- A whole round's payloads, cell by cell. -/
theorem rest_bar : bigSep ((Rd m).duties (barC c) 0 \ ∅) (fun d => (Rd m).payload (barC c) 0 d) = bigSep Finset.univ (barPay (F := F) c) := by
  rw [Finset.sdiff_empty, duties_tc]; exact bigSep_congr fun d _ => payload_bar m c d 0
theorem rest_snd : bigSep ((Rd m).duties (sndC c s h) 0 \ ∅) (fun d => (Rd m).payload (sndC c s h) 0 d) = sndPay m c s h := by
  rw [Finset.sdiff_empty, duties_tc, dutS_snd, bigSep_singleton, payload_snd]
theorem rest_rcv : bigSep ((Rd m).duties (rcvC c s h) 0 \ ∅) (fun d => (Rd m).payload (rcvC c s h) 0 d) = rcvPay m c s h := by
  rw [Finset.sdiff_empty, duties_tc, dutS_rcv, bigSep_singleton, payload_rcv]

end Sched

/-! ## Payments and levels -/

/-- A payment: the slot whose peer is paid, the semaphore, the amount. -/
abbrev Pay : Type := Fin 5 × SemLoc sig × ℕ
abbrev barP (s : Fin 5) : Pay := (s, .reg barS, 1)
abbrev endP (s : Fin 5) : Pay := (s, .reg endS, 1)
abbrev rcvP (s : Fin 5) (h : Fin 4) : Pay := (s, .dma (rcvS s h).sem, N)

/-- What device `c` owes for a list of payments. -/
def owed (c : Dev nD) : List Pay → CellTallies nD τ sig Unit
  | [] => 0
  | x :: l => owed c l + tallyAt ((peer x.1 c : Thread nD τ), x.2.1) () x.2.2

/-- The payments of a device in the order it makes them. -/
abbrev pays4 : List Pay := [endP 0, endP 1, endP 2, endP 3, endP 4]
abbrev pays3 : List Pay := rcvP 4 0 :: rcvP 4 1 :: rcvP 4 2 :: rcvP 4 3 :: pays4
abbrev pays2 : List Pay := rcvP 3 0 :: rcvP 3 1 :: rcvP 3 2 :: rcvP 3 3 :: pays3
abbrev pays1 : List Pay :=
  rcvP 0 0 :: rcvP 1 0 :: rcvP 2 0 :: rcvP 0 1 :: rcvP 1 1 :: rcvP 2 1 ::
  rcvP 0 2 :: rcvP 1 2 :: rcvP 2 2 :: rcvP 0 3 :: rcvP 1 3 :: rcvP 2 3 :: pays2
abbrev pays0 : List Pay := barP 0 :: barP 1 :: barP 2 :: barP 3 :: barP 4 :: pays1

def L (g : GSem nD τ sig) : Finset Unit := if g.1.2 = .tc then {()} else ∅
/-- The order in which cells are waited for: the barrier, the three stages' arrivals, the closing handshake; all others are
    waited for at any time. -/
def lvS : SemLoc sig → ℕ
  | .reg i => if i = barS then 1 else 5
  | .dma q => if q.val < 22 then 0 else 2 + st (slotOf (q.val - 22))
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_rcv (s : Fin 5) (h : Fin 4) : lvS (.dma (rcvS s h).sem) = 2 + st s := by
  show (if (rcvS s h).sem.val < 22 then 0 else 2 + st (slotOf ((rcvS s h).sem.val - 22))) = _
  rw [if_neg (by rw [rcv_val]; omega), (slot_rcv s h).1]
theorem lvS_snd (s : Fin 5) (h : Fin 4) : lvS (.dma (sndS s h).sem) = 0 := if_pos (by rw [snd_val]; omega)

/-- What a device owes is owed to cells of its list. -/
theorem owed_pos {c : Dev nD} {l : List Pay} {g : GSem nD τ sig} {u : Unit} (h : 0 < owed c l g u) :
    ∃ x ∈ l, g = ((peer x.1 c : Thread nD τ), x.2.1) := by
  induction l with
  | nil => exact absurd h (Nat.lt_irrefl 0)
  | cons x l ih =>
    by_cases hg : g = ((peer x.1 c : Thread nD τ), x.2.1)
    · exact ⟨x, List.mem_cons_self, hg⟩
    · unfold owed at h
      rw [Pi.add_apply, Finsupp.add_apply, tallyAt_apply, if_neg (fun h' => hg h'.1), Nat.add_zero] at h
      obtain ⟨y, hy, e⟩ := ih h
      exact ⟨y, List.mem_cons_of_mem _ hy, e⟩

omit [FloatOps F] in
/-- A device may wait on a semaphore of a level below everything it still owes. -/
theorem mayWait (c : Dev nD) (sm : SemLoc sig) (l : List Pay) (hl : ∀ x ∈ l, lvS sm < lvS x.2.1) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; exact le_refl _)
    (fun g u hg => by obtain ⟨x, hx, rfl⟩ := owed_pos hg; exact hl x hx)

/-! ## The cells by index -/

/-- The indices of a device's cells of the exchange: chunk, slot, and whether it is the arrival's. -/
abbrev XI : Type := Fin 4 × Fin 5 × Bool
/-- All of a device's cells: barrier and closing handshake, and the exchange's. -/
abbrev CI : Type := Bool ⊕ XI
/-- The semaphores of the kernel's own: all but the barrier. -/
abbrev OI : Type := Unit ⊕ XI

def xsem : XI → SemLoc sig
  | (h, s, false) => .dma (sndS s h).sem
  | (h, s, true) => .dma (rcvS s h).sem
def csem : CI → SemLoc sig
  | .inl false => .reg barS
  | .inl true => .reg endS
  | .inr x => xsem x
def osem : OI → SemLoc sig
  | .inl _ => .reg endS
  | .inr x => xsem x
abbrev kcell (ck : Dev nD × CI) : GSem nD τ sig := ((ck.1 : Thread nD τ), csem ck.2)

theorem xsem_inj : Function.Injective xsem := by
  rintro ⟨h, s, b⟩ ⟨h', s', b'⟩ e
  cases b <;> cases b' <;> simp only [xsem, SemLoc.dma.injEq] at e <;> have e' := congrArg Fin.val e <;>
    simp only [snd_val, rcv_val] at e' <;> first | (exfalso; omega) | skip
  all_goals
    have h1 : h = h' := Fin.ext (by omega)
    have h2 : s = s' := Fin.ext (by omega)
    subst h1 h2; rfl
theorem csem_inj : Function.Injective csem := by
  rintro (b | x) (b' | x') e
  · cases b <;> cases b' <;> first | rfl | exact absurd e (by decide)
  · obtain ⟨h, s, d⟩ := x'; cases b <;> cases d <;> cases e
  · obtain ⟨h, s, d⟩ := x; cases b' <;> cases d <;> cases e
  · exact congrArg Sum.inr (xsem_inj e)
theorem kcell_inj : Function.Injective kcell := by
  rintro ⟨c, k⟩ ⟨c', k'⟩ e
  have h1 : c = c' := congrArg (fun g : GSem nD τ sig => g.1.1) e
  have h2 : k = k' := csem_inj (congrArg Prod.snd e)
  subst h1 h2; rfl

end Cert.Butterfly

end
-- ==== Proof.Pieces.lean ====
/-
  The buffers cut into pieces.

  The running sum and the result are four row chunks; the landing buffer is five slots of four chunks. This module states
  that a whole buffer is its pieces, and that the pieces make the whole buffer again.
-/
module

public import proofs.«01_k».proof.Proof.Protocol

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Chunk `h` of the result. -/
abbrev oV (h : Fin 4) : Memref sig .tc .vmem S128x256 .f32 := oM.slice (rectA h) (fun _ => rfl)

/-! ## The pieces' elements -/

theorem mem_rectA (h : Fin 4) (i : S512x256.Idx) : i ∈ (rectA h).set ↔ 128 * h.val ≤ (i 0).val ∧ (i 0).val < 128 * h.val + 128 := by
  rw [Rect.mem_set_unit]
  refine ⟨fun H => H 0, fun H a => ?_⟩
  fin_cases a
  · exact H
  · exact ⟨Nat.zero_le _, lt_of_lt_of_eq (i 1).isLt (Nat.zero_add _).symm⟩
theorem set_aV (h : Fin 4) : (aV h).view.set = (rectA h).set := View.set_slice_whole _ _
theorem set_oV (h : Fin 4) : (oV h).view.set = (rectA h).set := View.set_slice_whole _ _

theorem mem_rectR (s : Fin 5) (h : Fin 4) (i : S5x512x256.Idx) :
    i ∈ (rectR s h).set ↔ (i 0).val = s.val ∧ 128 * h.val ≤ (i 1).val ∧ (i 1).val < 128 * h.val + 128 := by
  rw [Rect.mem_set_unit]
  refine ⟨fun H => ⟨?_, H 1⟩, fun H a => ?_⟩
  · have h0 : s.val ≤ (i 0).val ∧ (i 0).val < s.val + 1 := H 0
    omega
  · fin_cases a
    · exact ⟨le_of_eq H.1.symm, by rw [show ((i ⟨0, by decide⟩ : Fin _) : ℕ) = s.val from H.1]; exact Nat.lt_succ_self _⟩
    · exact H.2
    · exact ⟨Nat.zero_le _, lt_of_lt_of_eq (i 2).isLt (Nat.zero_add _).symm⟩
theorem set_rV (s : Fin 5) (h : Fin 4) : (rV s h).view.set = (rectR s h).set :=
  (View.set_reshape _ _).trans (View.set_slice_whole _ _)

/-- The chunk a row lies in, and the index inside it. -/
def chOf (i : S512x256.Idx) : Fin 4 := ⟨(i 0).val / 128, by have h : (i 0).val < 512 := (i 0).isLt; omega⟩
def posOf (i : S512x256.Idx) : S128x256.Idx := fun
  | ⟨0, _⟩ => ⟨(i 0).val % 128, Nat.mod_lt _ (by decide)⟩
  | ⟨1, _⟩ => ⟨(i 1).val, (i 1).isLt⟩
theorem emb_posOf (i : S512x256.Idx) : (rectA (chOf i)).emb (posOf i) = i := by
  refine funext fun a => Fin.ext ?_
  rw [Rect.emb_apply]
  fin_cases a
  · show 128 * ((i 0).val / 128) + 1 * ((i 0).val % 128) = (i 0).val
    omega
  · show 0 + 1 * (i 1).val = (i 1).val
    omega
theorem mem_chOf (i : S512x256.Idx) : i ∈ (rectA (chOf i)).set := by
  rw [mem_rectA]; show 128 * ((i 0).val / 128) ≤ _ ∧ _ < 128 * ((i 0).val / 128) + 128; omega

theorem rectA_disj : ∀ h ∈ (Finset.univ : Finset (Fin 4)), ∀ h' ∈ (Finset.univ : Finset (Fin 4)), h ≠ h' → Disjoint (rectA h).set (rectA h').set := by
  intro h _ h' _ hne
  refine Finset.disjoint_left.mpr fun i hi hi' => hne (Fin.ext ?_)
  rw [mem_rectA] at hi hi'; omega
theorem rectA_cover : (Finset.univ : Finset (Fin 4)).biUnion (fun h => (rectA h).set) = Finset.univ :=
  Finset.eq_univ_iff_forall.mpr fun i => Finset.mem_biUnion.mpr ⟨chOf i, Finset.mem_univ _, mem_chOf i⟩

theorem rectR_disj : ∀ x ∈ (Finset.univ : Finset (Fin 4 × Fin 5)), ∀ y ∈ (Finset.univ : Finset (Fin 4 × Fin 5)), x ≠ y →
    Disjoint (rectR x.2 x.1).set (rectR y.2 y.1).set := by
  intro x _ y _ hne
  refine Finset.disjoint_left.mpr fun i hi hi' => hne ?_
  rw [mem_rectR] at hi hi'
  exact Prod.ext (Fin.ext (by omega)) (Fin.ext (by omega))
theorem rectR_cover : (Finset.univ : Finset (Fin 4 × Fin 5)).biUnion (fun x => (rectR x.2 x.1).set) = Finset.univ := by
  refine Finset.eq_univ_iff_forall.mpr fun i => Finset.mem_biUnion.mpr ?_
  have h0 : (i 0).val < 5 := (i 0).isLt
  have h1 : (i 1).val < 512 := (i 1).isLt
  refine ⟨(⟨(i 1).val / 128, by omega⟩, ⟨(i 0).val, h0⟩), Finset.mem_univ _, (mem_rectR _ _ _).mpr ⟨rfl, ?_⟩⟩
  show 128 * ((i 1).val / 128) ≤ _ ∧ _ < 128 * ((i 1).val / 128) + 128
  omega

/-! ## Whole buffers and their pieces -/

/-- Chunk `h` of device `c`'s running sum, at any contents; -/
def accAny (c : Dev nD) (h : Fin 4) : sProp 𝕄 :=
  iprop(∃ f : Buf (Elt F) ((aV h).view.loc (c : Thread nD τ)), (aV h).view.loc (c : Thread nD τ) ↦[(aV h).view.set]{fullShare} f)
/-- of its result. -/
def outAny (c : Dev nD) (h : Fin 4) : sProp 𝕄 :=
  iprop(∃ f : Buf (Elt F) ((oV h).view.loc (c : Thread nD τ)), (oV h).view.loc (c : Thread nD τ) ↦[(oV h).view.set]{fullShare} f)

omit [FloatOps F] in
/-- The running sum's buffer gives its four chunks. -/
theorem acc_split (c : Dev nD) (f : Buf (Elt F) ((c : Thread nD τ).loc cc0_scratch0)) :
    (((c : Thread nD τ).loc cc0_scratch0) ↦{fullShare} f : sProp 𝕄) ⊢ bigSep Finset.univ (accAny (F := F) c) := by
  have e : (((c : Thread nD τ).loc cc0_scratch0) ↦{fullShare} f : sProp 𝕄)
      = bigSep Finset.univ fun h : Fin 4 => (((c : Thread nD τ).loc cc0_scratch0) ↦[(rectA h).set]{fullShare} f) := by
    rw [← rectA_cover]; exact pointsTo_biUnion _ _ rectA_disj
  rw [e]
  refine bigSep_mono fun h _ => ?_
  show (((c : Thread nD τ).loc cc0_scratch0) ↦[(rectA h).set]{fullShare} f : sProp 𝕄) ⊢ accAny c h
  unfold accAny
  rw [set_aV]
  iintro H
  iexists f
  iexact H

/-- Its four chunks give it back. -/
theorem acc_join (c : Dev nD) :
    bigSep Finset.univ (accAny (F := F) c) ⊢ (iprop(∃ f : Buf (Elt F) ((c : Thread nD τ).loc cc0_scratch0), ((c : Thread nD τ).loc cc0_scratch0) ↦{fullShare} f) : sProp 𝕄) := by
  refine (show bigSep Finset.univ (accAny (F := F) c) ⊢ (bigSep Finset.univ fun h : Fin 4 => iprop(∃ f : Buf (Elt F) ((c : Thread nD τ).loc cc0_scratch0),
      ((c : Thread nD τ).loc cc0_scratch0) ↦[(rectA h).set]{fullShare} f) : sProp 𝕄) from bigSep_mono fun h _ => by unfold accAny; rw [set_aV]; exact BI.Entails.refl _).trans ?_
  haveI : Nonempty (Elt F .bf16) := ⟨Scalar.ofBits .bf16 0#16⟩
  haveI hne : Nonempty (S512x256.Idx → Elt F .bf16) := inferInstance
  refine (BI.bigSep_exists_pi Finset.univ (fun (h : Fin 4) (f : Buf (Elt F) ((c : Thread nD τ).loc cc0_scratch0)) =>
      (((c : Thread nD τ).loc cc0_scratch0) ↦[(rectA h).set]{fullShare} f : sProp 𝕄))).trans ?_
  iintro ⟨%fs, H⟩
  ihave H' := (pointsTo_biUnion_join Finset.univ (fun h : Fin 4 => (rectA h).set) fs (fs 0) rectA_disj) $$ H
  icases H' with ⟨%g, -, H⟩
  iexists g
  rw [← rectA_cover]; iexact H

omit [FloatOps F] in
/-- The landing buffer gives its twenty pieces. -/
theorem lnd_split (c : Dev nD) (f : Buf (Elt F) ((c : Thread nD τ).loc cc0_scratch1)) :
    (((c : Thread nD τ).loc cc0_scratch1) ↦{fullShare} f : sProp 𝕄) ⊢ bigSep Finset.univ fun h : Fin 4 => bigSep Finset.univ fun s : Fin 5 => lnd (F := F) c s h := by
  have e : (((c : Thread nD τ).loc cc0_scratch1) ↦{fullShare} f : sProp 𝕄)
      = bigSep Finset.univ fun x : Fin 4 × Fin 5 => (((c : Thread nD τ).loc cc0_scratch1) ↦[(rectR x.2 x.1).set]{fullShare} f) := by
    rw [← rectR_cover]; exact pointsTo_biUnion _ _ rectR_disj
  rw [e, bigSep_univ_prod]
  refine bigSep_mono fun h _ => bigSep_mono fun s _ => ?_
  show (((c : Thread nD τ).loc cc0_scratch1) ↦[(rectR s h).set]{fullShare} f : sProp 𝕄) ⊢ lnd c s h
  unfold lnd
  rw [set_rV]
  iintro H
  iexists f
  iexact H

/-- Its twenty pieces give it back. -/
theorem lnd_join (c : Dev nD) :
    (bigSep Finset.univ fun h : Fin 4 => bigSep Finset.univ fun s : Fin 5 => lnd (F := F) c s h)
      ⊢ (iprop(∃ f : Buf (Elt F) ((c : Thread nD τ).loc cc0_scratch1), ((c : Thread nD τ).loc cc0_scratch1) ↦{fullShare} f) : sProp 𝕄) := by
  rw [← bigSep_univ_prod (fun x : Fin 4 × Fin 5 => lnd (F := F) c x.2 x.1)]
  refine (show (bigSep Finset.univ fun x : Fin 4 × Fin 5 => lnd (F := F) c x.2 x.1) ⊢ (bigSep Finset.univ fun x : Fin 4 × Fin 5 => iprop(∃ f : Buf (Elt F) ((c : Thread nD τ).loc cc0_scratch1),
      ((c : Thread nD τ).loc cc0_scratch1) ↦[(rectR x.2 x.1).set]{fullShare} f) : sProp 𝕄) from bigSep_mono fun x _ => by unfold lnd; rw [set_rV]; exact BI.Entails.refl _).trans ?_
  haveI : Nonempty (Elt F .bf16) := ⟨Scalar.ofBits .bf16 0#16⟩
  haveI hne : Nonempty (S5x512x256.Idx → Elt F .bf16) := inferInstance
  refine (BI.bigSep_exists_pi Finset.univ (fun (x : Fin 4 × Fin 5) (f : Buf (Elt F) ((c : Thread nD τ).loc cc0_scratch1)) =>
      (((c : Thread nD τ).loc cc0_scratch1) ↦[(rectR x.2 x.1).set]{fullShare} f : sProp 𝕄))).trans ?_
  iintro ⟨%fs, H⟩
  ihave H' := (pointsTo_biUnion_join Finset.univ (fun x : Fin 4 × Fin 5 => (rectR x.2 x.1).set) fs (fs (0, 0)) rectR_disj) $$ H
  icases H' with ⟨%g, -, H⟩
  iexists g
  rw [← rectR_cover]; iexact H

variable (m : (ℓ : Loc nD τ sig) → Buf (Elt F) ℓ)

/-- The whole result on device `c`. -/
def outAt (c : Dev nD) : (cc0_stg1_0 : Ref sig .tc).ty.Contents (Elt F) := fun i => outC m c (chOf i) (posOf i)

omit [FloatOps F] in
/-- The result's buffer gives its four chunks. -/
theorem out_split (c : Dev nD) (f : Buf (Elt F) ((c : Thread nD τ).loc cc0_stg1_0)) :
    (((c : Thread nD τ).loc cc0_stg1_0) ↦{fullShare} f : sProp 𝕄) ⊢ bigSep Finset.univ (outAny (F := F) c) := by
  have e : (((c : Thread nD τ).loc cc0_stg1_0) ↦{fullShare} f : sProp 𝕄)
      = bigSep Finset.univ fun h : Fin 4 => (((c : Thread nD τ).loc cc0_stg1_0) ↦[(rectA h).set]{fullShare} f) := by
    rw [← rectA_cover]; exact pointsTo_biUnion _ _ rectA_disj
  rw [e]
  refine bigSep_mono fun h _ => ?_
  show (((c : Thread nD τ).loc cc0_stg1_0) ↦[(rectA h).set]{fullShare} f : sProp 𝕄) ⊢ outAny c h
  unfold outAny
  rw [set_oV]
  iintro H
  iexists f
  iexact H

/-- The four chunks of the result, each at its contents, are the whole result. -/
theorem out_join (c : Dev nD) :
    (bigSep Finset.univ fun h : Fin 4 => (owns (c : Thread nD τ) (oV h) fullShare (outC m c h) : sProp 𝕄))
      ⊢ (((c : Thread nD τ).loc cc0_stg1_0) ↦{fullShare} outAt m c : sProp 𝕄) := by
  have e : (((c : Thread nD τ).loc cc0_stg1_0) ↦{fullShare} outAt m c : sProp 𝕄)
      = bigSep Finset.univ fun h : Fin 4 => (((c : Thread nD τ).loc cc0_stg1_0) ↦[(rectA h).set]{fullShare} outAt m c) := by
    rw [← rectA_cover]; exact pointsTo_biUnion _ _ rectA_disj
  rw [e]
  refine bigSep_mono fun h _ => ?_
  show (owns (c : Thread nD τ) (oV h) fullShare (outC m c h) : sProp 𝕄) ⊢ (((c : Thread nD τ).loc cc0_stg1_0) ↦[(rectA h).set]{fullShare} outAt m c)
  unfold owns
  rw [set_oV]
  iintro ⟨%f, %hf, H⟩
  have key : ∀ i ∈ (rectA h).set, f i = outAt m c i := fun i hi => by
    have hh : chOf i = h := by
      refine Fin.ext ?_
      rw [mem_rectA] at hi
      show (i 0).val / 128 = h.val
      omega
    have hv : outAt m c i = outC m c h (posOf i) := by unfold outAt; rw [hh]
    rw [hv, ← hf]
    show f i = f ((rectA h).emb (posOf i))
    rw [← hh, emb_posOf]
  iapply (Entails.of_eq (pointsTo_congr (ℓ := (c : Thread nD τ).loc cc0_stg1_0) (q := fullShare) key))
  iexact H

end Cert.Butterfly

end
-- ==== Proof.Moves.lean ====
/-
  The protocol's moves.

  One statement per kind of communication: signal, wait of a handshake, send a chunk, wait for a chunk's two semaphores.
  Each says what a device must hold before the move and what it holds after.
-/
module

public import proofs.«01_k».proof.Proof.Pieces

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- That device `c` runs the program `k` to a state in which `Q` holds. -/
abbrev WP (c : Dev nD) (k : P F) (Q : PUnit → sProp 𝕄) : sProp 𝕄 :=
  wp frame (wpE (defs₀ (F := F)) 𝒱₀ (c : Thread nD τ) none) Set.univ k Q

/-! ## What every device knows -/

/-- All cells' invariants under the names `K`, that every cell has begun its round, and the levels. -/
def recs (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance recs_persistent (K : Dev nD × CI → ℕ) : BI.Persistent (recs m K) := by unfold recs; infer_instance

variable (K : Dev nD × CI → ℕ)

/-- One cell's invariant; -/
theorem inv_at (ck : Dev nD × CI) : recs m K ⊢ cellInv ER (Rd m) (K ck) (kcell ck) := by
  unfold recs
  exact sep_elim_left.trans (bigSep_elim (Φ := fun ck : Dev nD × CI => cellInv ER (Rd m) (K ck) (kcell ck)) (Finset.mem_univ ck))
/-- that it has begun its round; -/
theorem reached_at (ck : Dev nD × CI) : recs m K ⊢ reached ER (kcell ck) 0 := by
  unfold recs
  exact sep_elim_right.trans (sep_elim_left.trans (bigSep_elim (Φ := fun ck : Dev nD × CI => (reached ER (kcell ck) 0 : sProp 𝕄)) (Finset.mem_univ ck)))
/-- the levels. -/
theorem lev_at : recs m K ⊢ (levAts L lv : sProp 𝕄) := by
  unfold recs; iintro ⟨-, -, H⟩; iexact H

/-- Device `c` owes the payments of the list `l`. -/
def owesE (c : Dev nD) (l : List Pay) : sProp 𝕄 := iprop(∃ W, owes (c : Thread nD τ) (owed c l) W)

/-! ## Handshakes -/

theorem payload_reg (c : Dev nD) (sm : Sem sig) (r : ℕ) (s : Fin 5) : (Rd m).payload ((c : Thread nD τ), .reg sm) r s = payR c sm s := rfl

/-- A signal on the peer's regular semaphore pays the peer's duty of that slot and hands over its payload. -/
theorem sig_move (c n : Dev nD) (s : Fin 5) (hn : n = peer s c) (sm : Sem sig) (b : Bool) (hb : csem (.inl b) = .reg sm) (l : List Pay)
    (k : P F) (Q : PUnit → sProp 𝕄) :
    iprop(recs m K ∗ dutyTok ER ((peer s c : Thread nD τ), .reg sm) 0 s ∗ payR (peer s c) sm s ∗ owesE c ((s, .reg sm, 1) :: l))
      ⊢ iprop((owesE c l -∗ WP c k Q) -∗ WP c (sigStep sm n k) Q) := by
  subst hn
  unfold sigStep owesE WP
  simp only [semSignalWord, Prog.lift, Prog.bind_op, Prog.bind_ret, Prog.pure_eq_ret]
  iintro ⟨#HR, Ht, Hp, ⟨%W, HO⟩⟩ Hk
  ihave HI := (inv_at m K (peer s c, .inl b)) $$ HR
  ihave Hr := (reached_at m K (peer s c, .inl b)) $$ HR
  rw [show kcell (peer s c, .inl b) = ((peer s c : Thread nD τ), .reg sm) from by unfold kcell; rw [hb]]
  iapply (Rounds.wp_signal 𝒱₀ ER (Rd m) (c : Thread nD τ) none (dst := (peer s c : Thread nD τ)) (κ := K (peer s c, .inl b))
      (d := s) (by rw [duties_tc]; exact Finset.mem_univ _) (show 1 = _ from rfl) () (owed c l) rfl)
    $$ [HO Ht Hp HI Hr]
  · isplitl [HI]; · iexact HI
    isplitl [HO]; · iexact HO
    isplitl [Ht]; · iexact Ht
    isplitl [Hp]; · rw [payload_reg]; iexact Hp
    iexact Hr
  iintro HO
  iapply Hk
  iexists W; iexact HO

set_option maxRecDepth 8000 in
/-- The wait for all five signals on a regular semaphore: their payloads come, and the semaphore is back at zero. -/
theorem hear_move (c : Dev nD) (sm : Sem sig) (b : Bool) (hb : csem (.inl b) = .reg sm) (l : List Pay) (hl : ∀ x ∈ l, lvS (.reg sm) < lvS x.2.1)
    (k : P F) (Q : PUnit → sProp 𝕄) :
    iprop(recs m K ∗ atPos ER ((c : Thread nD τ), .reg sm) 0 ∅ 0 ∗ cred (tallyAt ((c : Thread nD τ), .reg sm) () 5) ∗ owesE c l)
      ⊢ iprop(((semVal ((c : Thread nD τ), .reg sm) 0 ∗ bigSep Finset.univ (payR c sm) ∗ owesE c l) -∗ WP c k Q) -∗ WP c (hearStep sm k) Q) := by
  unfold hearStep owesE WP
  simp only [semWaitWord, Prog.lift, Prog.bind_op, Prog.bind_ret, Prog.pure_eq_ret]
  iintro ⟨#HR, Hat, Hc, ⟨%W, HO⟩⟩ Hk
  ihave HI := (inv_at m K (c, .inl b)) $$ HR
  rw [show kcell (c, .inl b) = ((c : Thread nD τ), .reg sm) from by unfold kcell; rw [hb]]
  icases HI with #HI
  ihave Hlev := (lev_at m K) $$ HR
  icases Hlev with #Hlev
  iapply (Rounds.wp_wait_rest_token 𝒱₀ ER (Rd m) (c : Thread nD τ) none (κ := K (c, .inl b))
      (wpE_semWait_eq 𝒱₀ (c : Thread nD τ) none Set.univ) (Set.mem_univ _) () (O := owed c l) (W := W) (R := 0) (m := 0) (T := ∅)
      (by rw [expect_reg]; decide)) $$ [Hc HO Hat]
  · isplitr; · iexact HI
    isplitl [Hc]; · iexact Hc
    isplitl [HO]; · iexact HO
    isplitr
    · iapply (mayWait (F := F) c (.reg sm) l hl); iexact Hlev
    iexact Hat
  iintro ⟨HO, Hat, -, Hpay⟩
  imod (Rounds.cell_close ER (Rd m) (Set.mem_univ (K (c, .inl b))) (fun h => h) (R := 0 + 1) (duties_later m ((c : Thread nD τ), .reg sm))) $$ [Hat] with Hz
  · isplitr; · iexact HI
    iexact Hat
  iapply Hk
  isplitl [Hz]; · iexact Hz
  isplitl [Hpay]
  · rw [Finset.sdiff_empty, duties_tc]; iexact Hpay
  iexists _; iexact HO

/-! ## Transfers -/

/-- What a device needs to wait for slot `s`, chunk `h`: its place in the two cells and the credit of the arrival. -/
def pos (c : Dev nD) (s : Fin 5) (h : Fin 4) : sProp 𝕄 :=
  iprop(atPos ER (sndC c s h) 0 ∅ 0 ∗ atPos ER (rcvC c s h) 0 ∅ 0 ∗ cred (tallyAt (rcvC c s h) () N))
/-- What it needs to send it: the two duties the transfer pays. -/
def tok (c : Dev nD) (s : Fin 5) (h : Fin 4) : sProp 𝕄 :=
  iprop(dutyTok ER (sndC c s h) 0 0 ∗ dutyTok ER (rcvC (peer s c) s h) 0 0)
/-- The two semaphores of slot `s`, chunk `h` at zero. -/
def zer (c : Dev nD) (s : Fin 5) (h : Fin 4) : sProp 𝕄 :=
  iprop(semVal (sndC c s h) 0 ∗ semVal (rcvC c s h) 0)

theorem amount_rV (s : Fin 5) (h : Fin 4) : (rV s h).view.amount (.dma (rcvS s h).sem) = N := rfl

/-- Sending chunk `h` in slot `s`: the share of the chunk and the place at the peer go with the transfer. -/
theorem send_move (c n : Dev nD) (s : Fin 5) (h : Fin 4) (hn : n = peer s c) (l : List Pay) (k : P F) (Q : PUnit → sProp 𝕄) :
    iprop(recs m K ∗ tok c s h ∗ lnd (peer s c) s h ∗ owns (c : Thread nD τ) (aV h) (shr s) (B m (st s) c h) ∗ owesE c (rcvP s h :: l))
      ⊢ iprop(((cred (tallyAt (sndC c s h) () N) ∗ owesE c l) -∗ WP c k Q) -∗ WP c (sendStep s h n k) Q) := by
  subst hn
  unfold sendStep owesE WP tok lnd
  iintro ⟨#HR, ⟨Ht1, Ht2⟩, ⟨%fd, Hd⟩, Ha, ⟨%W, HO⟩⟩ Hk
  unfold owns
  icases Ha with ⟨%fs, %hfs, Ha⟩
  iapply (Rounds.wp_send_pointsTo 𝒱₀ ER (Rd m) (c : Thread nD τ) none (κ₁ := K (c, .inr (h, s, false))) (κ₂ := K (peer s c, .inr (h, s, true)))
    (r₁ := 0) (r₂ := 0) (d₁ := 0) (d₂ := 0) (fd := fd) (fs := fs)
    (by rw [duties_tc, dutS_snd]; exact Finset.mem_singleton_self _) (by rw [duties_tc, dutS_rcv]; exact Finset.mem_singleton_self _)
    () () N (amount_rV s h) rfl rfl (owed c l) rfl (W := W)
    (by
      rw [payload_snd]; unfold sndPay owns
      iintro H; iexists fs; isplitr; · ipureintro; exact hfs
      iexact H)
    (by
      rw [payload_rcv]; unfold rcvPay owns
      iintro H; iexists _; isplitr
      · ipureintro
        show (rV s h).view.read (Elt F) ((rV s h).view.write (Elt F) fd ((aV h).view.read (Elt F) fs) Finset.univ) = _
        rw [peer_peer, ← hfs]
        exact funext fun x => View.read_write_of_mem _ _ (Finset.mem_univ x)
      iexact H)) $$ [Ha Hd HO Ht1 Ht2]
  · isplitr; · iapply (inv_at m K (c, .inr (h, s, false))); iexact HR
    isplitr; · iapply (inv_at m K (peer s c, .inr (h, s, true))); iexact HR
    isplitl [Ha]; · iexact Ha
    isplitl [Hd]; · iexact Hd
    isplitl [HO]; · iexact HO
    isplitl [Ht1]; · iexact Ht1
    isplitr; · iapply (reached_at m K (c, .inr (h, s, false))); iexact HR
    isplitl [Ht2]; · iexact Ht2
    iapply (reached_at m K (peer s c, .inr (h, s, true))); iexact HR
  iintro ⟨Hc, HO⟩
  iapply Hk
  isplitl [Hc]; · iexact Hc
  iexists W; iexact HO

set_option maxRecDepth 8000 in
/-- Waiting for slot `s`, chunk `h`: the share lent comes back, the peer's chunk has arrived, both semaphores are at zero. -/
theorem wait_move (c : Dev nD) (s : Fin 5) (h : Fin 4) (l : List Pay) (hl : ∀ x ∈ l, 2 + st s < lvS x.2.1) (k : P F) (Q : PUnit → sProp 𝕄) :
    iprop(recs m K ∗ pos c s h ∗ cred (tallyAt (sndC c s h) () N) ∗ owesE c l)
      ⊢ iprop(((zer c s h ∗ sndPay m c s h ∗ rcvPay m c s h ∗ owesE c l) -∗ WP c k Q) -∗ WP c (waitStep s h k) Q) := by
  unfold waitStep owesE WP pos zer
  iintro ⟨#HR, ⟨Hat1, Hat2, Hc2⟩, Hc1, ⟨%W, HO⟩⟩ Hk
  ihave HI1 := (inv_at m K (c, .inr (h, s, false))) $$ HR
  ihave HI2 := (inv_at m K (c, .inr (h, s, true))) $$ HR
  icases HI1 with #HI1
  icases HI2 with #HI2
  ihave Hlev := (lev_at m K) $$ HR
  icases Hlev with #Hlev
  iapply (Rounds.wp_wait_rest_token 𝒱₀ ER (Rd m) (c : Thread nD τ) none (κ := K (c, .inr (h, s, false)))
      (wpE_waitDma2_eq 𝒱₀ (c : Thread nD τ) none Set.univ) (Set.mem_univ _) () (O := owed c l) (W := W) (R := 0) (m := 0) (T := ∅)
      (by rw [Nat.zero_add]; exact (expect_snd m c s h).symm)) $$ [Hc1 HO Hat1]
  · isplitr; · iexact HI1
    isplitl [Hc1]; · iexact Hc1
    isplitl [HO]; · iexact HO
    isplitr
    · iapply (mayWait (F := F) c (.dma (sndS s h).sem) l (fun x hx => by rw [lvS_snd]; exact lt_of_le_of_lt (Nat.zero_le _) (hl x hx)))
      iexact Hlev
    iexact Hat1
  iintro ⟨HO, Hat1, -, Hp1⟩
  ihave Hp1 := (Entails.of_eq (rest_snd m c s h)) $$ Hp1
  iapply (Rounds.wp_wait_rest_token 𝒱₀ ER (Rd m) (c : Thread nD τ) none (κ := K (c, .inr (h, s, true)))
      (wpE_waitDma2_eq 𝒱₀ (c : Thread nD τ) none Set.univ) (Set.mem_univ _) () (O := owed c l) (R := 0) (m := 0) (T := ∅)
      (by rw [Nat.zero_add]; exact (expect_rcv m c s h).symm)) $$ [Hc2 HO Hat2]
  · isplitr; · iexact HI2
    isplitl [Hc2]; · iexact Hc2
    isplitl [HO]; · iexact HO
    isplitr
    · iapply (mayWait (F := F) c (.dma (rcvS s h).sem) l (fun x hx => by rw [lvS_rcv]; exact hl x hx))
      iexact Hlev
    iexact Hat2
  iintro ⟨HO, Hat2, -, Hp2⟩
  ihave Hp2 := (Entails.of_eq (rest_rcv m c s h)) $$ Hp2
  imod (Rounds.cell_close ER (Rd m) (Set.mem_univ (K (c, .inr (h, s, false)))) (fun h => h) (R := 0 + 1) (duties_later m (sndC c s h))) $$ [Hat1] with Hz1
  · isplitr; · iexact HI1
    iexact Hat1
  imod (Rounds.cell_close ER (Rd m) (Set.mem_univ (K (c, .inr (h, s, true)))) (fun h => h) (R := 0 + 1) (duties_later m (rcvC c s h))) $$ [Hat2] with Hz2
  · isplitr; · iexact HI2
    iexact Hat2
  iapply Hk
  isplitl [Hz1 Hz2]
  · isplitl [Hz1] <;> iassumption
  isplitl [Hp1]; · iexact Hp1
  isplitl [Hp2]; · iexact Hp2
  iexists _; iexact HO

end Cert.Butterfly

end
-- ==== Proof.Steps.lean ====
/-
  The steps of a chunk.

  What each of the four steps of the body does to its chunk: it takes the chunk's part of the running sum from one stage to
  the next, and leaves the transfers of the next stage under way.
-/
module

public import proofs.«01_k».proof.Proof.Moves
public import Idealize.ShloMosaic.Lib.Pipeline.Value

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Reads and writes of a chunk -/

/-- Chunk `h` of the running sum, owned whole, holding `v`. -/
abbrev accIs (c : Dev nD) (h : Fin 4) (v : FVec F S128x256 .bf16) : sProp 𝕄 := owns (c : Thread nD τ) (aV h) fullShare v

theorem accIs_any (c : Dev nD) (h : Fin 4) (v : FVec F S128x256 .bf16) : accIs c h v ⊢ accAny (F := F) c h := by
  unfold accIs owns accAny
  iintro ⟨%f, -, H⟩
  iexists f; iexact H

/-- A read of the running sum's chunk gives what it holds. -/
theorem readA_move (c : Dev nD) (h : Fin 4) (v : FVec F S128x256 .bf16) (k : Vec F S128x256 .bf16 → P F) (Q : PUnit → sProp 𝕄) :
    accIs c h v ⊢ iprop((accIs c h v -∗ WP c (k v) Q) -∗ WP c (readA h k) Q) := by
  unfold accIs owns readA WP
  iintro ⟨%f, %hf, H⟩ Hk
  iapply (wp_load_rect 𝒱₀ (c : Thread nD τ) none Set.univ (m := aM) (r := rectA h) (S := (aV h).view.set) (f := f) (Finset.Subset.refl _)) $$ H
  iintro H
  rw [show ((aM : Memref sig .tc .vmem S512x256 .bf16).access (rectA h)).read (Elt F) f = v from hf]
  iapply Hk
  iexists f
  isplitr; · ipureintro; exact hf
  iexact H

/-- A write of the running sum's chunk. -/
theorem writeA_move (c : Dev nD) (h : Fin 4) (v : FVec F S128x256 .bf16) (k : P F) (Q : PUnit → sProp 𝕄) :
    accAny c h ⊢ iprop((accIs c h v -∗ WP c k Q) -∗ WP c (writeA h v k) Q) := by
  unfold accIs owns writeA readA WP accAny
  iintro ⟨%f, H⟩ Hk
  iapply (wp_load_rect 𝒱₀ (c : Thread nD τ) none Set.univ (m := aM) (r := rectA h) (S := (aV h).view.set) (f := f) (Finset.Subset.refl _)) $$ H
  iintro H
  iapply (wp_store 𝒱₀ (c : Thread nD τ) none Set.univ (m := aM) (r := rectA h) (Mk := Finset.univ) (S := (aV h).view.set) (f := f) (Finset.Subset.refl _)) $$ H
  iintro H
  iapply Hk
  iexists ((aV h).view.write (Elt F) f v Finset.univ)
  isplitr; · ipureintro; exact funext fun x => View.read_write_of_mem _ _ (Finset.mem_univ x)
  iexact H

/-- A write of the result's chunk. -/
theorem writeO_move (c : Dev nD) (h : Fin 4) (v : FVec F S128x256 .f32) (k : P F) (Q : PUnit → sProp 𝕄) :
    outAny c h ⊢ iprop((owns (c : Thread nD τ) (oV h) fullShare v -∗ WP c k Q) -∗ WP c (writeO h v k) Q) := by
  unfold owns writeO WP outAny
  iintro ⟨%f, H⟩ Hk
  iapply (wp_load_rect 𝒱₀ (c : Thread nD τ) none Set.univ (m := oM) (r := rectA h) (S := (oV h).view.set) (f := f) (Finset.Subset.refl _)) $$ H
  iintro H
  iapply (wp_store 𝒱₀ (c : Thread nD τ) none Set.univ (m := oM) (r := rectA h) (Mk := Finset.univ) (S := (oV h).view.set) (f := f) (Finset.Subset.refl _)) $$ H
  iintro H
  iapply Hk
  iexists ((oV h).view.write (Elt F) f v Finset.univ)
  isplitr; · ipureintro; exact funext fun x => View.read_write_of_mem _ _ (Finset.mem_univ x)
  iexact H

/-- A read of a slot's chunk that has arrived gives the peer's chunk, in the slot's shape. -/
theorem readR_move (c : Dev nD) (s : Fin 5) (h : Fin 4) (k : Vec F S1x128x256 .bf16 → P F) (Q : PUnit → sProp 𝕄) :
    rcvPay m c s h ⊢ iprop((∀ w, ⌜shapeCast S128x256 w shapeCasts_S1x128x256_S128x256 = B m (st s) (peer s c) h⌝ -∗ lnd c s h -∗ WP c (k w) Q)
      -∗ WP c (readR s h k) Q) := by
  unfold rcvPay owns readR WP lnd
  iintro ⟨%f, %hf, H⟩ Hk
  iapply (wp_load_rect 𝒱₀ (c : Thread nD τ) none Set.univ (m := rM) (r := rectR s h) (S := (rV s h).view.set) (f := f)
    (by rw [show (rV s h).view.set = ((rM.slice (rectR s h) (fun _ => rfl)).view.set) from View.set_reshape _ _])) $$ H
  iintro H
  ispecialize Hk $$ %(((rM : Memref sig .tc .vmem S5x512x256 .bf16).access (rectR s h)).read (Elt F) f)
  iapply Hk
  · ipureintro; exact hf
  iexists f; iexact H

/-! ## The sums, stage by stage -/

theorem B_zero (c : Dev nD) (h : Fin 4) : B m 0 c h = (xM : Memref sig .tc .vmem S512x256 .bf16).view.readAt (Elt F) (rectA h).toLoadRect (xstg m c) := by
  conv_lhs => rw [B]
theorem B_one (c : Dev nD) (h : Fin 4) : B m 1 c h = addf (addf (addf (B m 0 c h) (B m 0 (peer 0 c) h)) (B m 0 (peer 1 c) h)) (B m 0 (peer 2 c) h) := by
  conv_lhs => rw [B]
theorem B_two (c : Dev nD) (h : Fin 4) : B m 2 c h = addf (B m 1 c h) (B m 1 (peer 3 c) h) := by conv_lhs => rw [B]
theorem B_three (c : Dev nD) (h : Fin 4) : B m 3 c h = addf (B m 2 c h) (B m 2 (peer 4 c) h) := by conv_lhs => rw [B]

/-! ## The states of a slot's chunk -/

/-- Ready to be sent: the duties, the place at the peer, and what the wait will need. -/
def ready (c : Dev nD) (s : Fin 5) (h : Fin 4) : sProp 𝕄 := iprop(pos c s h ∗ tok c s h ∗ lnd (peer s c) s h)
/-- Under way. -/
def flying (c : Dev nD) (s : Fin 5) (h : Fin 4) : sProp 𝕄 := iprop(pos c s h ∗ cred (tallyAt (sndC c s h) () N))
/-- Over: both semaphores at zero, the own landing place back. -/
def over (c : Dev nD) (s : Fin 5) (h : Fin 4) : sProp 𝕄 := iprop(zer c s h ∗ lnd c s h)

variable (K : Dev nD × CI → ℕ)

/-- A chunk that is ready is sent, with the share of the running sum's chunk it reads. -/
theorem send_ready (c n : Dev nD) (s : Fin 5) (h : Fin 4) (hn : n = peer s c) (l : List Pay) (k : P F) (Q : PUnit → sProp 𝕄) :
    iprop(recs m K ∗ ready c s h ∗ sndPay m c s h ∗ owesE c (rcvP s h :: l))
      ⊢ iprop(((flying c s h ∗ owesE c l) -∗ WP c k Q) -∗ WP c (sendStep s h n k) Q) := by
  unfold ready flying sndPay
  iintro ⟨#HR, ⟨Hp, Ht, Hd⟩, Ha, HO⟩ Hk
  iapply (send_move m K c n s h hn l k Q) $$ [Ht Hd Ha HO]
  · isplitr; · iexact HR
    isplitl [Ht]; · iexact Ht
    isplitl [Hd]; · iexact Hd
    isplitl [Ha] <;> iassumption
  iintro ⟨Hc, HO⟩
  iapply Hk
  isplitl [Hp Hc]
  · isplitl [Hp] <;> iassumption
  iexact HO

/-- A chunk under way is waited for. -/
theorem wait_flying (c : Dev nD) (s : Fin 5) (h : Fin 4) (l : List Pay) (hl : ∀ x ∈ l, 2 + st s < lvS x.2.1) (k : P F) (Q : PUnit → sProp 𝕄) :
    iprop(recs m K ∗ flying c s h ∗ owesE c l)
      ⊢ iprop(((zer c s h ∗ sndPay m c s h ∗ rcvPay m c s h ∗ owesE c l) -∗ WP c k Q) -∗ WP c (waitStep s h k) Q) := by
  unfold flying
  iintro ⟨#HR, ⟨Hp, Hc⟩, HO⟩ Hk
  iapply (wait_move m K c s h l hl k Q) $$ [Hp Hc HO]
  · isplitr; · iexact HR
    isplitl [Hp]; · iexact Hp
    isplitl [Hc] <;> iassumption
  iexact Hk

/-! ## The steps -/

/-- Device `c`'s block of the argument, staged. -/
def xPts (c : Dev nD) : sProp 𝕄 := ((c : Thread nD τ).loc cc0_stg0_0) ↦{fullShare} xstg m c

/-- The first step: the chunk of the argument becomes the running sum's, and three transfers of it are under way. -/
theorem load_move (c n0 n1 n2 : Dev nD) (h : Fin 4) (h0 : n0 = peer 0 c) (h1 : n1 = peer 1 c) (h2 : n2 = peer 2 c) (l : List Pay)
    (k : P F) (Q : PUnit → sProp 𝕄) :
    iprop(recs m K ∗ xPts m c ∗ accAny c h ∗ (ready c 0 h ∗ ready c 1 h ∗ ready c 2 h) ∗ owesE c (rcvP 0 h :: rcvP 1 h :: rcvP 2 h :: l))
      ⊢ iprop(((xPts m c ∗ (flying c 0 h ∗ flying c 1 h ∗ flying c 2 h) ∗ owesE c l) -∗ WP c k Q) -∗ WP c (loadStep h n0 n1 n2 k) Q) := by
  unfold loadStep xPts
  iintro ⟨#HR, Hx, Ha, ⟨H0, H1, H2⟩, HO⟩ Hk
  iapply (wp_load 𝒱₀ (c : Thread nD τ) none Set.univ (m := xM) (Finset.subset_univ _)) $$ Hx
  iintro Hx
  iapply (writeA_move c h _ _ Q) $$ Ha
  iintro Ha
  rw [show k0_pay1 ((xM : Memref sig .tc .vmem S512x256 .bf16).view.readAt (Elt F) (rectA h).toLoadRect (xstg m c)) = B m 0 c h from
    (shapeCast_self _ _).trans ((shapeCast_self _ _).trans (B_zero m c h).symm)]
  ihave Hs := (owns_halves (c : Thread nD τ) (aV h) fullShare (B m 0 c h)).1 $$ Ha
  icases Hs with ⟨Ha0, Ha'⟩
  ihave Hs := (owns_halves (c : Thread nD τ) (aV h) fullShare.right (B m 0 c h)).1 $$ Ha'
  icases Hs with ⟨Ha1, Ha2⟩
  iapply (send_ready m K c n0 0 h h0 _ _ Q) $$ [H0 Ha0 HO]
  · isplitr; · iexact HR
    isplitl [H0]; · iexact H0
    isplitl [Ha0]; · unfold sndPay; iexact Ha0
    iexact HO
  iintro ⟨H0, HO⟩
  iapply (send_ready m K c n1 1 h h1 _ _ Q) $$ [H1 Ha1 HO]
  · isplitr; · iexact HR
    isplitl [H1]; · iexact H1
    isplitl [Ha1]; · unfold sndPay; iexact Ha1
    iexact HO
  iintro ⟨H1, HO⟩
  iapply (send_ready m K c n2 2 h h2 _ _ Q) $$ [H2 Ha2 HO]
  · isplitr; · iexact HR
    isplitl [H2]; · iexact H2
    isplitl [Ha2]; · unfold sndPay; iexact Ha2
    iexact HO
  iintro ⟨H2, HO⟩
  iapply Hk
  isplitl [Hx]; · iexact Hx
  isplitl [H0 H1 H2]
  · isplitl [H0]; · iexact H0
    isplitl [H1] <;> iassumption
  iexact HO

/-- The second step: the three chunks received are added, and the transfer of the sum is under way. -/
theorem sum_move (c n : Dev nD) (h : Fin 4) (hn : n = peer 3 c) (l : List Pay) (hl : ∀ x ∈ rcvP 3 h :: l, 2 < lvS x.2.1) (k : P F) (Q : PUnit → sProp 𝕄) :
    iprop(recs m K ∗ (flying c 0 h ∗ flying c 1 h ∗ flying c 2 h) ∗ ready c 3 h ∗ owesE c (rcvP 3 h :: l))
      ⊢ iprop((((over c 0 h ∗ over c 1 h ∗ over c 2 h) ∗ flying c 3 h ∗ owesE c l) -∗ WP c k Q) -∗ WP c (sumStep h n k) Q) := by
  unfold sumStep over
  iintro ⟨#HR, ⟨H0, H1, H2⟩, H3, HO⟩ Hk
  iapply (wait_flying m K c 0 h _ hl _ Q) $$ [H0 HO]
  · isplitr; · iexact HR
    isplitl [H0] <;> iassumption
  iintro ⟨Hz0, Ha0, Hr0, HO⟩
  iapply (wait_flying m K c 1 h _ hl _ Q) $$ [H1 HO]
  · isplitr; · iexact HR
    isplitl [H1] <;> iassumption
  iintro ⟨Hz1, Ha1, Hr1, HO⟩
  iapply (wait_flying m K c 2 h _ hl _ Q) $$ [H2 HO]
  · isplitr; · iexact HR
    isplitl [H2] <;> iassumption
  iintro ⟨Hz2, Ha2, Hr2, HO⟩
  unfold sndPay
  ihave Ha' := (owns_halves (c : Thread nD τ) (aV h) fullShare.right (B m 0 c h)).2 $$ [Ha1 Ha2]
  · isplitl [Ha1]; · iexact Ha1
    iexact Ha2
  ihave Ha := (owns_halves (c : Thread nD τ) (aV h) fullShare (B m 0 c h)).2 $$ [Ha0 Ha']
  · isplitl [Ha0]; · iexact Ha0
    iexact Ha'
  iapply (readA_move c h (B m 0 c h) _ Q) $$ Ha
  iintro Ha
  iapply (readR_move m c 0 h _ Q) $$ Hr0
  iintro %w0 %e0 Hr0
  iapply (readR_move m c 1 h _ Q) $$ Hr1
  iintro %w1 %e1 Hr1
  iapply (readR_move m c 2 h _ Q) $$ Hr2
  iintro %w2 %e2 Hr2
  ihave Ha := (accIs_any c h (B m 0 c h)) $$ Ha
  rw [show k0_pay6 (B m 0 c h) w0 w1 w2 = B m 1 c h from
    (shapeCast_self _ _).trans (by rw [e0, e1, e2]; exact (B_one m c h).symm)]
  iapply (writeA_move c h _ _ Q) $$ Ha
  iintro Ha
  iapply (send_ready m K c n 3 h hn _ _ Q) $$ [H3 Ha HO]
  · isplitr; · iexact HR
    isplitl [H3]; · iexact H3
    isplitl [Ha]; · unfold sndPay; iexact Ha
    iexact HO
  iintro ⟨H3, HO⟩
  iapply Hk
  isplitl [Hz0 Hz1 Hz2 Hr0 Hr1 Hr2]
  · isplitl [Hz0 Hr0]
    · isplitl [Hz0] <;> iassumption
    isplitl [Hz1 Hr1]
    · isplitl [Hz1] <;> iassumption
    isplitl [Hz2] <;> iassumption
  isplitl [H3] <;> iassumption

/-- The third step: the chunk received in slot 3 is added, and the transfer of the sum is under way. -/
theorem add_move (c n : Dev nD) (h : Fin 4) (hn : n = peer 4 c) (l : List Pay) (hl : ∀ x ∈ rcvP 4 h :: l, 3 < lvS x.2.1) (k : P F) (Q : PUnit → sProp 𝕄) :
    iprop(recs m K ∗ flying c 3 h ∗ ready c 4 h ∗ owesE c (rcvP 4 h :: l))
      ⊢ iprop(((over c 3 h ∗ flying c 4 h ∗ owesE c l) -∗ WP c k Q) -∗ WP c (addStep h n k) Q) := by
  unfold addStep over
  iintro ⟨#HR, H3, H4, HO⟩ Hk
  iapply (wait_flying m K c 3 h _ hl _ Q) $$ [H3 HO]
  · isplitr; · iexact HR
    isplitl [H3] <;> iassumption
  iintro ⟨Hz, Ha, Hr, HO⟩
  ihave Ha := (show (sndPay m c 3 h : sProp 𝕄) ⊢ accIs c h (B m 1 c h) from Entails.of_eq rfl) $$ Ha
  iapply (readA_move c h (B m 1 c h) _ Q) $$ Ha
  iintro Ha
  iapply (readR_move m c 3 h _ Q) $$ Hr
  iintro %w %e Hr
  ihave Ha := (accIs_any c h (B m 1 c h)) $$ Ha
  rw [show k0_pay14 (B m 1 c h) w = B m 2 c h from (shapeCast_self _ _).trans (by rw [e]; exact (B_two m c h).symm)]
  iapply (writeA_move c h _ _ Q) $$ Ha
  iintro Ha
  iapply (send_ready m K c n 4 h hn _ _ Q) $$ [H4 Ha HO]
  · isplitr; · iexact HR
    isplitl [H4]; · iexact H4
    isplitl [Ha]; · unfold sndPay; iexact Ha
    iexact HO
  iintro ⟨H4, HO⟩
  iapply Hk
  isplitl [Hz Hr]
  · isplitl [Hz] <;> iassumption
  isplitl [H4] <;> iassumption

/-- The last step: the chunk received in slot 4 is added, and the result computed from the sum. -/
theorem last_move (c : Dev nD) (h : Fin 4) (l : List Pay) (hl : ∀ x ∈ l, 4 < lvS x.2.1) (k : P F) (Q : PUnit → sProp 𝕄) :
    iprop(recs m K ∗ flying c 4 h ∗ outAny c h ∗ owesE c l)
      ⊢ iprop(((over c 4 h ∗ accAny c h ∗ owns (c : Thread nD τ) (oV h) fullShare (outC m c h) ∗ owesE c l) -∗ WP c k Q) -∗ WP c (lastStep h k) Q) := by
  unfold lastStep over
  iintro ⟨#HR, H4, Ho, HO⟩ Hk
  iapply (wait_flying m K c 4 h _ hl _ Q) $$ [H4 HO]
  · isplitr; · iexact HR
    isplitl [H4] <;> iassumption
  iintro ⟨Hz, Ha, Hr, HO⟩
  ihave Ha := (show (sndPay m c 4 h : sProp 𝕄) ⊢ accIs c h (B m 2 c h) from Entails.of_eq rfl) $$ Ha
  iapply (readA_move c h (B m 2 c h) _ Q) $$ Ha
  iintro Ha
  iapply (readR_move m c 4 h _ Q) $$ Hr
  iintro %w %e Hr
  ihave Ha := (accIs_any c h (B m 2 c h)) $$ Ha
  rw [show k0_pay18 (B m 2 c h) w = B m 3 c h from (shapeCast_self _ _).trans (by rw [e]; exact (B_three m c h).symm)]
  iapply (writeA_move c h _ _ Q) $$ Ha
  iintro Ha
  iapply (readA_move c h (B m 3 c h) _ Q) $$ Ha
  iintro Ha
  iapply (writeO_move c h _ _ Q) $$ Ho
  iintro Ho
  ihave Ha := (accIs_any c h (B m 3 c h)) $$ Ha
  iapply Hk
  isplitl [Hz Hr]
  · isplitl [Hz] <;> iassumption
  isplitl [Ha]; · iexact Ha
  isplitl [Ho]; · unfold outC; iexact Ho
  iexact HO

end Cert.Butterfly

end
-- ==== Proof.Body.lean ====
/-
  The whole body on one device.

  The entry handshake, the four steps each over the four chunks, and the closing handshake are composed (`body_move`):
  from the buffers and the device's part of the exchange's ghost state, the body ends with the result's buffer at
  `outAt`, the argument's block unchanged, the scratch buffers back whole and every semaphore at zero.
-/
module

public import proofs.«01_k».proof.Proof.Steps

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Products over slots and chunks -/

omit [FloatOps F] in
theorem over_chunks (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem over_slots (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- A product over chunks and slots, grouped by the exchange's stages. -/
theorem by_stage (Φ : Fin 5 → Fin 4 → sProp 𝕄) :
    (bigSep Finset.univ fun h : Fin 4 => bigSep Finset.univ fun s : Fin 5 => Φ s h)
      = iprop((bigSep Finset.univ fun h : Fin 4 => iprop(Φ 0 h ∗ Φ 1 h ∗ Φ 2 h)) ∗ (bigSep Finset.univ fun h : Fin 4 => Φ 3 h) ∗ (bigSep Finset.univ fun h : Fin 4 => Φ 4 h)) := by
  rw [← bigSep_sep' Finset.univ (fun h : Fin 4 => Φ 3 h), ← bigSep_sep' Finset.univ (fun h : Fin 4 => iprop(Φ 0 h ∗ Φ 1 h ∗ Φ 2 h))]
  refine bigSep_congr fun h _ => ?_
  rw [over_slots]
  refine Entails.antisymm ?_ ?_
  · show (iprop(Φ 0 h ∗ Φ 1 h ∗ Φ 2 h ∗ Φ 3 h ∗ Φ 4 h) : sProp 𝕄) ⊢ iprop((Φ 0 h ∗ Φ 1 h ∗ Φ 2 h) ∗ Φ 3 h ∗ Φ 4 h)
    iintro ⟨H0, H1, H2, H3, H4⟩
    isplitl [H0 H1 H2]
    · isplitl [H0]; · iexact H0
      isplitl [H1] <;> iassumption
    isplitl [H3] <;> iassumption
  · show (iprop((Φ 0 h ∗ Φ 1 h ∗ Φ 2 h) ∗ Φ 3 h ∗ Φ 4 h) : sProp 𝕄) ⊢ iprop(Φ 0 h ∗ Φ 1 h ∗ Φ 2 h ∗ Φ 3 h ∗ Φ 4 h)
    iintro ⟨⟨H0, H1, H2⟩, H3, H4⟩
    isplitl [H0]; · iexact H0
    isplitl [H1]; · iexact H1
    isplitl [H2]; · iexact H2
    isplitl [H3] <;> iassumption

variable (K : Dev nD × CI → ℕ)

/-! ## The handshakes -/

/-- The five signals of a handshake. -/
theorem signals_move (c n0 n1 n2 n3 n4 : Dev nD) (h0 : n0 = peer 0 c) (h1 : n1 = peer 1 c) (h2 : n2 = peer 2 c) (h3 : n3 = peer 3 c) (h4 : n4 = peer 4 c)
    (sm : Sem sig) (b : Bool) (hb : csem (.inl b) = .reg sm) (l : List Pay) (k : P F) (Q : PUnit → sProp 𝕄) :
    iprop(recs m K ∗ (bigSep Finset.univ fun s : Fin 5 => dutyTok ER ((peer s c : Thread nD τ), .reg sm) 0 s)
        ∗ (bigSep Finset.univ fun s : Fin 5 => payR (peer s c) sm s)
        ∗ owesE c ((0, .reg sm, 1) :: (1, .reg sm, 1) :: (2, .reg sm, 1) :: (3, .reg sm, 1) :: (4, .reg sm, 1) :: l))
      ⊢ iprop((owesE c l -∗ WP c k Q) -∗ WP c (sigStep sm n0 <| sigStep sm n1 <| sigStep sm n2 <| sigStep sm n3 <| sigStep sm n4 k) Q) := by
  rw [over_slots, over_slots]
  iintro ⟨#HR, ⟨T0, T1, T2, T3, T4⟩, ⟨P0, P1, P2, P3, P4⟩, HO⟩ Hk
  iapply (sig_move m K c n0 0 h0 sm b hb _ _ Q) $$ [T0 P0 HO]
  · isplitr; · iexact HR
    isplitl [T0]; · iexact T0
    isplitl [P0] <;> iassumption
  iintro HO
  iapply (sig_move m K c n1 1 h1 sm b hb _ _ Q) $$ [T1 P1 HO]
  · isplitr; · iexact HR
    isplitl [T1]; · iexact T1
    isplitl [P1] <;> iassumption
  iintro HO
  iapply (sig_move m K c n2 2 h2 sm b hb _ _ Q) $$ [T2 P2 HO]
  · isplitr; · iexact HR
    isplitl [T2]; · iexact T2
    isplitl [P2] <;> iassumption
  iintro HO
  iapply (sig_move m K c n3 3 h3 sm b hb _ _ Q) $$ [T3 P3 HO]
  · isplitr; · iexact HR
    isplitl [T3]; · iexact T3
    isplitl [P3] <;> iassumption
  iintro HO
  iapply (sig_move m K c n4 4 h4 sm b hb _ _ Q) $$ [T4 P4 HO]
  · isplitr; · iexact HR
    isplitl [T4]; · iexact T4
    isplitl [P4] <;> iassumption
  iexact Hk

/-! ## The steps over the four chunks -/

/-- The first step of all chunks. -/
theorem loads_move (c : Dev nD) (n : Fin 3 → Fin 4 → Dev nD) (h0 : ∀ h, n 0 h = peer 0 c) (h1 : ∀ h, n 1 h = peer 1 c) (h2 : ∀ h, n 2 h = peer 2 c)
    (l : List Pay) (k : P F) (Q : PUnit → sProp 𝕄) :
    iprop(recs m K ∗ xPts m c ∗ bigSep Finset.univ (accAny c)
        ∗ (bigSep Finset.univ fun h : Fin 4 => iprop(ready c 0 h ∗ ready c 1 h ∗ ready c 2 h))
        ∗ owesE c (rcvP 0 0 :: rcvP 1 0 :: rcvP 2 0 :: rcvP 0 1 :: rcvP 1 1 :: rcvP 2 1 ::
            rcvP 0 2 :: rcvP 1 2 :: rcvP 2 2 :: rcvP 0 3 :: rcvP 1 3 :: rcvP 2 3 :: l))
      ⊢ iprop(((xPts m c ∗ (bigSep Finset.univ fun h : Fin 4 => iprop(flying c 0 h ∗ flying c 1 h ∗ flying c 2 h)) ∗ owesE c l) -∗ WP c k Q)
          -∗ WP c (loadStep 0 (n 0 0) (n 1 0) (n 2 0) <| loadStep 1 (n 0 1) (n 1 1) (n 2 1) <|
              loadStep 2 (n 0 2) (n 1 2) (n 2 2) <| loadStep 3 (n 0 3) (n 1 3) (n 2 3) k) Q) := by
  rw [over_chunks, over_chunks, over_chunks]
  iintro ⟨#HR, Hx, ⟨A0, A1, A2, A3⟩, ⟨R0, R1, R2, R3⟩, HO⟩ Hk
  iapply (load_move m K c _ _ _ 0 (h0 0) (h1 0) (h2 0) _ _ Q) $$ [Hx A0 R0 HO]
  · isplitr; · iexact HR
    isplitl [Hx]; · iexact Hx
    isplitl [A0]; · iexact A0
    isplitl [R0] <;> iassumption
  iintro ⟨Hx, R0, HO⟩
  iapply (load_move m K c _ _ _ 1 (h0 1) (h1 1) (h2 1) _ _ Q) $$ [Hx A1 R1 HO]
  · isplitr; · iexact HR
    isplitl [Hx]; · iexact Hx
    isplitl [A1]; · iexact A1
    isplitl [R1] <;> iassumption
  iintro ⟨Hx, R1, HO⟩
  iapply (load_move m K c _ _ _ 2 (h0 2) (h1 2) (h2 2) _ _ Q) $$ [Hx A2 R2 HO]
  · isplitr; · iexact HR
    isplitl [Hx]; · iexact Hx
    isplitl [A2]; · iexact A2
    isplitl [R2] <;> iassumption
  iintro ⟨Hx, R2, HO⟩
  iapply (load_move m K c _ _ _ 3 (h0 3) (h1 3) (h2 3) _ _ Q) $$ [Hx A3 R3 HO]
  · isplitr; · iexact HR
    isplitl [Hx]; · iexact Hx
    isplitl [A3]; · iexact A3
    isplitl [R3] <;> iassumption
  iintro ⟨Hx, R3, HO⟩
  iapply Hk
  isplitl [Hx]; · iexact Hx
  isplitl [R0 R1 R2 R3]
  · isplitl [R0]; · iexact R0
    isplitl [R1]; · iexact R1
    isplitl [R2] <;> iassumption
  iexact HO

/-- The second step of all chunks. -/
theorem sums_move (c : Dev nD) (n : Fin 4 → Dev nD) (hn : ∀ h, n h = peer 3 c) (l : List Pay)
    (hl : ∀ x ∈ rcvP 3 0 :: rcvP 3 1 :: rcvP 3 2 :: rcvP 3 3 :: l, 2 < lvS x.2.1) (k : P F) (Q : PUnit → sProp 𝕄) :
    iprop(recs m K ∗ (bigSep Finset.univ fun h : Fin 4 => iprop(flying c 0 h ∗ flying c 1 h ∗ flying c 2 h))
        ∗ (bigSep Finset.univ fun h : Fin 4 => ready c 3 h) ∗ owesE c (rcvP 3 0 :: rcvP 3 1 :: rcvP 3 2 :: rcvP 3 3 :: l))
      ⊢ iprop((((bigSep Finset.univ fun h : Fin 4 => iprop(over c 0 h ∗ over c 1 h ∗ over c 2 h)) ∗ (bigSep Finset.univ fun h : Fin 4 => flying c 3 h) ∗ owesE c l) -∗ WP c k Q)
          -∗ WP c (sumStep 0 (n 0) <| sumStep 1 (n 1) <| sumStep 2 (n 2) <| sumStep 3 (n 3) k) Q) := by
  rw [over_chunks, over_chunks, over_chunks, over_chunks]
  iintro ⟨#HR, ⟨A0, A1, A2, A3⟩, ⟨R0, R1, R2, R3⟩, HO⟩ Hk
  iapply (sum_move m K c _ 0 (hn 0) _ hl _ Q) $$ [A0 R0 HO]
  · isplitr; · iexact HR
    isplitl [A0]; · iexact A0
    isplitl [R0] <;> iassumption
  iintro ⟨A0, R0, HO⟩
  iapply (sum_move m K c _ 1 (hn 1) _ (fun x hx => hl x (List.mem_cons_of_mem _ (hx))) _ Q) $$ [A1 R1 HO]
  · isplitr; · iexact HR
    isplitl [A1]; · iexact A1
    isplitl [R1] <;> iassumption
  iintro ⟨A1, R1, HO⟩
  iapply (sum_move m K c _ 2 (hn 2) _ (fun x hx => hl x (List.mem_cons_of_mem _ (List.mem_cons_of_mem _ (hx)))) _ Q) $$ [A2 R2 HO]
  · isplitr; · iexact HR
    isplitl [A2]; · iexact A2
    isplitl [R2] <;> iassumption
  iintro ⟨A2, R2, HO⟩
  iapply (sum_move m K c _ 3 (hn 3) _ (fun x hx => hl x (List.mem_cons_of_mem _ (List.mem_cons_of_mem _ (List.mem_cons_of_mem _ (hx))))) _ Q) $$ [A3 R3 HO]
  · isplitr; · iexact HR
    isplitl [A3]; · iexact A3
    isplitl [R3] <;> iassumption
  iintro ⟨A3, R3, HO⟩
  iapply Hk
  isplitl [A0 A1 A2 A3]
  · isplitl [A0]; · iexact A0
    isplitl [A1]; · iexact A1
    isplitl [A2] <;> iassumption
  isplitl [R0 R1 R2 R3]
  · isplitl [R0]; · iexact R0
    isplitl [R1]; · iexact R1
    isplitl [R2] <;> iassumption
  iexact HO

/-- The third step of all chunks. -/
theorem adds_move (c : Dev nD) (n : Fin 4 → Dev nD) (hn : ∀ h, n h = peer 4 c) (l : List Pay)
    (hl : ∀ x ∈ rcvP 4 0 :: rcvP 4 1 :: rcvP 4 2 :: rcvP 4 3 :: l, 3 < lvS x.2.1) (k : P F) (Q : PUnit → sProp 𝕄) :
    iprop(recs m K ∗ (bigSep Finset.univ fun h : Fin 4 => flying c 3 h)
        ∗ (bigSep Finset.univ fun h : Fin 4 => ready c 4 h) ∗ owesE c (rcvP 4 0 :: rcvP 4 1 :: rcvP 4 2 :: rcvP 4 3 :: l))
      ⊢ iprop((((bigSep Finset.univ fun h : Fin 4 => over c 3 h) ∗ (bigSep Finset.univ fun h : Fin 4 => flying c 4 h) ∗ owesE c l) -∗ WP c k Q)
          -∗ WP c (addStep 0 (n 0) <| addStep 1 (n 1) <| addStep 2 (n 2) <| addStep 3 (n 3) k) Q) := by
  rw [over_chunks, over_chunks, over_chunks, over_chunks]
  iintro ⟨#HR, ⟨A0, A1, A2, A3⟩, ⟨R0, R1, R2, R3⟩, HO⟩ Hk
  iapply (add_move m K c _ 0 (hn 0) _ hl _ Q) $$ [A0 R0 HO]
  · isplitr; · iexact HR
    isplitl [A0]; · iexact A0
    isplitl [R0] <;> iassumption
  iintro ⟨A0, R0, HO⟩
  iapply (add_move m K c _ 1 (hn 1) _ (fun x hx => hl x (List.mem_cons_of_mem _ (hx))) _ Q) $$ [A1 R1 HO]
  · isplitr; · iexact HR
    isplitl [A1]; · iexact A1
    isplitl [R1] <;> iassumption
  iintro ⟨A1, R1, HO⟩
  iapply (add_move m K c _ 2 (hn 2) _ (fun x hx => hl x (List.mem_cons_of_mem _ (List.mem_cons_of_mem _ (hx)))) _ Q) $$ [A2 R2 HO]
  · isplitr; · iexact HR
    isplitl [A2]; · iexact A2
    isplitl [R2] <;> iassumption
  iintro ⟨A2, R2, HO⟩
  iapply (add_move m K c _ 3 (hn 3) _ (fun x hx => hl x (List.mem_cons_of_mem _ (List.mem_cons_of_mem _ (List.mem_cons_of_mem _ (hx))))) _ Q) $$ [A3 R3 HO]
  · isplitr; · iexact HR
    isplitl [A3]; · iexact A3
    isplitl [R3] <;> iassumption
  iintro ⟨A3, R3, HO⟩
  iapply Hk
  isplitl [A0 A1 A2 A3]
  · isplitl [A0]; · iexact A0
    isplitl [A1]; · iexact A1
    isplitl [A2] <;> iassumption
  isplitl [R0 R1 R2 R3]
  · isplitl [R0]; · iexact R0
    isplitl [R1]; · iexact R1
    isplitl [R2] <;> iassumption
  iexact HO

/-- The last step of all chunks. -/
theorem lasts_move (c : Dev nD) (l : List Pay) (hl : ∀ x ∈ l, 4 < lvS x.2.1) (k : P F) (Q : PUnit → sProp 𝕄) :
    iprop(recs m K ∗ (bigSep Finset.univ fun h : Fin 4 => flying c 4 h) ∗ bigSep Finset.univ (outAny c) ∗ owesE c l)
      ⊢ iprop((((bigSep Finset.univ fun h : Fin 4 => over c 4 h) ∗ bigSep Finset.univ (accAny c)
            ∗ (bigSep Finset.univ fun h : Fin 4 => owns (c : Thread nD τ) (oV h) fullShare (outC m c h)) ∗ owesE c l) -∗ WP c k Q)
          -∗ WP c (lastStep 0 <| lastStep 1 <| lastStep 2 <| lastStep 3 k) Q) := by
  rw [over_chunks, over_chunks, over_chunks, over_chunks, over_chunks]
  iintro ⟨#HR, ⟨A0, A1, A2, A3⟩, ⟨R0, R1, R2, R3⟩, HO⟩ Hk
  iapply (last_move m K c 0 _ hl _ Q) $$ [A0 R0 HO]
  · isplitr; · iexact HR
    isplitl [A0]; · iexact A0
    isplitl [R0] <;> iassumption
  iintro ⟨A0, S0, R0, HO⟩
  iapply (last_move m K c 1 _ hl _ Q) $$ [A1 R1 HO]
  · isplitr; · iexact HR
    isplitl [A1]; · iexact A1
    isplitl [R1] <;> iassumption
  iintro ⟨A1, S1, R1, HO⟩
  iapply (last_move m K c 2 _ hl _ Q) $$ [A2 R2 HO]
  · isplitr; · iexact HR
    isplitl [A2]; · iexact A2
    isplitl [R2] <;> iassumption
  iintro ⟨A2, S2, R2, HO⟩
  iapply (last_move m K c 3 _ hl _ Q) $$ [A3 R3 HO]
  · isplitr; · iexact HR
    isplitl [A3]; · iexact A3
    isplitl [R3] <;> iassumption
  iintro ⟨A3, S3, R3, HO⟩
  iapply Hk
  isplitl [A0 A1 A2 A3]
  · isplitl [A0]; · iexact A0
    isplitl [A1]; · iexact A1
    isplitl [A2] <;> iassumption
  isplitl [S0 S1 S2 S3]
  · isplitl [S0]; · iexact S0
    isplitl [S1]; · iexact S1
    isplitl [S2] <;> iassumption
  isplitl [R0 R1 R2 R3]
  · isplitl [R0]; · iexact R0
    isplitl [R1]; · iexact R1
    isplitl [R2] <;> iassumption
  iexact HO

/-! ## The body -/

/-- The devices that the body computes are the peers. -/
theorem dev_entry (c : Dev nD) : (⟨k0_dev1 c, k0_dev1_lt c⟩ : Dev nD) = peer 0 c ∧ (⟨k0_dev2 c, k0_dev2_lt c⟩ : Dev nD) = peer 1 c
    ∧ (⟨k0_dev3 c, k0_dev3_lt c⟩ : Dev nD) = peer 2 c ∧ (⟨k0_dev4 c, k0_dev4_lt c⟩ : Dev nD) = peer 3 c ∧ (⟨k0_dev5 c, k0_dev5_lt c⟩ : Dev nD) = peer 4 c := by
  revert c; decide
theorem dev_exit (c : Dev nD) : (⟨k0_dev26 c, k0_dev26_lt c⟩ : Dev nD) = peer 0 c ∧ (⟨k0_dev27 c, k0_dev27_lt c⟩ : Dev nD) = peer 1 c
    ∧ (⟨k0_dev28 c, k0_dev28_lt c⟩ : Dev nD) = peer 2 c ∧ (⟨k0_dev29 c, k0_dev29_lt c⟩ : Dev nD) = peer 3 c ∧ (⟨k0_dev30 c, k0_dev30_lt c⟩ : Dev nD) = peer 4 c := by
  revert c; decide
/-- The devices of the first stage's transfers, slot by chunk; -/
def devL (c : Dev nD) : Fin 3 → Fin 4 → Dev nD
  | 0, 0 => ⟨k0_dev6 c, k0_dev6_lt c⟩ | 1, 0 => ⟨k0_dev7 c, k0_dev7_lt c⟩ | 2, 0 => ⟨k0_dev8 c, k0_dev8_lt c⟩
  | 0, 1 => ⟨k0_dev9 c, k0_dev9_lt c⟩ | 1, 1 => ⟨k0_dev10 c, k0_dev10_lt c⟩ | 2, 1 => ⟨k0_dev11 c, k0_dev11_lt c⟩
  | 0, 2 => ⟨k0_dev12 c, k0_dev12_lt c⟩ | 1, 2 => ⟨k0_dev13 c, k0_dev13_lt c⟩ | 2, 2 => ⟨k0_dev14 c, k0_dev14_lt c⟩
  | 0, 3 => ⟨k0_dev15 c, k0_dev15_lt c⟩ | 1, 3 => ⟨k0_dev16 c, k0_dev16_lt c⟩ | 2, 3 => ⟨k0_dev17 c, k0_dev17_lt c⟩
/-- of the second stage's, by chunk; -/
def devS (c : Dev nD) : Fin 4 → Dev nD
  | 0 => ⟨k0_dev18 c, k0_dev18_lt c⟩ | 1 => ⟨k0_dev19 c, k0_dev19_lt c⟩ | 2 => ⟨k0_dev20 c, k0_dev20_lt c⟩ | 3 => ⟨k0_dev21 c, k0_dev21_lt c⟩
/-- of the third stage's. -/
def devA (c : Dev nD) : Fin 4 → Dev nD
  | 0 => ⟨k0_dev22 c, k0_dev22_lt c⟩ | 1 => ⟨k0_dev23 c, k0_dev23_lt c⟩ | 2 => ⟨k0_dev24 c, k0_dev24_lt c⟩ | 3 => ⟨k0_dev25 c, k0_dev25_lt c⟩
theorem devL_eq (c : Dev nD) (h : Fin 4) : devL c 0 h = peer 0 c ∧ devL c 1 h = peer 1 c ∧ devL c 2 h = peer 2 c := by revert c h; decide
theorem devS_eq (c : Dev nD) (h : Fin 4) : devS c h = peer 3 c := by revert c h; decide
theorem devA_eq (c : Dev nD) (h : Fin 4) : devA c h = peer 4 c := by revert c h; decide

/-- A device's part of the exchange at entry: the invariants, its positions and credits, and the tokens of the duties it pays. -/
def entryG (c : Dev nD) : sProp 𝕄 :=
  iprop(recs m K ∗ (atPos ER (barC c) 0 ∅ 0 ∗ cred (tallyAt (barC c) () 5)) ∗ (atPos ER (endC c) 0 ∅ 0 ∗ cred (tallyAt (endC c) () 5))
    ∗ (bigSep Finset.univ fun s : Fin 5 => dutyTok ER (barC (peer s c)) 0 s) ∗ (bigSep Finset.univ fun s : Fin 5 => dutyTok ER (endC (peer s c)) 0 s)
    ∗ (bigSep Finset.univ fun h : Fin 4 => bigSep Finset.univ fun s : Fin 5 => iprop(pos c s h ∗ tok c s h)))

/-- What the body leaves of it, besides the result: the scratch buffers whole and every semaphore at zero. -/
def exitG (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (barC c) 0 ∗ semVal (endC c) 0 ∗ (bigSep Finset.univ fun h : Fin 4 => bigSep Finset.univ fun s : Fin 5 => zer c s h))

/-- What a device hands its peers at entry is its own landing buffer. -/
theorem entry_pays (c : Dev nD) (f : Buf (Elt F) ((c : Thread nD τ).loc cc0_scratch1)) :
    (((c : Thread nD τ).loc cc0_scratch1) ↦{fullShare} f : sProp 𝕄) ⊢ bigSep Finset.univ fun s : Fin 5 => payR (F := F) (peer s c) barS s := by
  refine (lnd_split c f).trans ?_
  rw [bigSep_univ_comm]
  refine Entails.of_eq (bigSep_congr fun s _ => ?_)
  rw [show (payR (peer s c) barS s : sProp 𝕄) = barPay (peer s c) s from if_pos rfl]
  unfold barPay
  rw [peer_peer]

/-- What it receives makes every chunk ready to be sent. -/
theorem entry_ready (c : Dev nD) :
    iprop((bigSep Finset.univ fun h : Fin 4 => bigSep Finset.univ fun s : Fin 5 => iprop(pos c s h ∗ tok c s h)) ∗ bigSep Finset.univ (payR c barS))
      ⊢ (bigSep Finset.univ fun h : Fin 4 => bigSep Finset.univ fun s : Fin 5 => ready c s h : sProp 𝕄) := by
  have e : (bigSep Finset.univ (payR c barS) : sProp 𝕄) = bigSep Finset.univ fun h : Fin 4 => bigSep Finset.univ fun s : Fin 5 => lnd (peer s c) s h := by
    rw [bigSep_univ_comm (fun (h : Fin 4) (s : Fin 5) => (lnd (peer s c) s h : sProp 𝕄))]
    exact bigSep_congr fun s _ => if_pos rfl
  rw [e, ← bigSep_sep']
  refine bigSep_mono fun h _ => ?_
  rw [← bigSep_sep']
  refine bigSep_mono fun s _ => ?_
  unfold ready
  show (_ : sProp 𝕄) ⊢ _
  iintro ⟨⟨H1, H2⟩, H3⟩
  isplitl [H1]; · iexact H1
  isplitl [H2] <;> iassumption

theorem end_pays (c : Dev nD) (s : Fin 5) : (payR c endS s : sProp 𝕄) = iprop(emp) := if_neg end_ne_bar

/-- The chunks over give the semaphores at zero and the landing buffer whole. -/
theorem over_all (c : Dev nD) :
    (bigSep Finset.univ fun h : Fin 4 => bigSep Finset.univ fun s : Fin 5 => over c s h)
      ⊢ (iprop((bigSep Finset.univ fun h : Fin 4 => bigSep Finset.univ fun s : Fin 5 => zer c s h)
          ∗ (∃ f : Buf (Elt F) ((c : Thread nD τ).loc cc0_scratch1), ((c : Thread nD τ).loc cc0_scratch1) ↦{fullShare} f)) : sProp 𝕄) := by
  unfold over
  rw [bigSep_congr (s := Finset.univ) (fun (h : Fin 4) _ => bigSep_sep' Finset.univ (fun s : Fin 5 => (zer c s h : sProp 𝕄)) (fun s => lnd c s h)), bigSep_sep']
  exact sep_mono_right (lnd_join c)

/-- The payments of the steps still to come are above the level waited on. -/
theorem above1 : ∀ x ∈ pays1, lvS (.reg barS) < lvS x.2.1 := by decide
theorem above2 : ∀ x ∈ pays2, 2 < lvS x.2.1 := by decide
theorem above3 : ∀ x ∈ pays3, 3 < lvS x.2.1 := by decide
theorem above4 : ∀ x ∈ pays4, 4 < lvS x.2.1 := by decide

/-- The body on device `c`. -/
theorem body_move (c : Dev nD) (f0 : Buf (Elt F) ((c : Thread nD τ).loc cc0_scratch0)) (f1 : Buf (Elt F) ((c : Thread nD τ).loc cc0_scratch1))
    (fo : Buf (Elt F) ((c : Thread nD τ).loc cc0_stg1_0)) (Q : PUnit → sProp 𝕄) :
    iprop(entryG m K c ∗ (((c : Thread nD τ).loc cc0_scratch0) ↦{fullShare} f0) ∗ (((c : Thread nD τ).loc cc0_scratch1) ↦{fullShare} f1)
        ∗ owesE c pays0 ∗ xPts m c ∗ (((c : Thread nD τ).loc cc0_stg1_0) ↦{fullShare} fo))
      ⊢ iprop(((exitG c ∗ owesE c [] ∗ xPts m c ∗ (((c : Thread nD τ).loc cc0_stg1_0) ↦{fullShare} outAt m c)) -∗ Q ⟨⟩) -∗ WP c (flat c) Q) := by
  unfold entryG exitG
  iintro ⟨⟨#HR, ⟨Hab, Hcb⟩, ⟨Hae, Hce⟩, Tb, Te, Hpt⟩, H0, H1, HO, Hx, Ho⟩ Hk
  obtain ⟨e0, e1, e2, e3, e4⟩ := dev_entry c
  obtain ⟨x0, x1, x2, x3, x4⟩ := dev_exit c
  unfold flat
  ihave Hl := (entry_pays c f1) $$ H1
  iapply (signals_move m K c _ _ _ _ _ e0 e1 e2 e3 e4 barS false rfl pays1 _ Q) $$ [Tb Hl HO]
  · isplitr; · iexact HR
    isplitl [Tb]; · iexact Tb
    isplitl [Hl] <;> iassumption
  iintro HO
  iapply (hear_move m K c barS false rfl pays1 above1 _ Q) $$ [Hab Hcb HO]
  · isplitr; · iexact HR
    isplitl [Hab]; · iexact Hab
    isplitl [Hcb] <;> iassumption
  iintro ⟨Hzb, Hp, HO⟩
  ihave Hr := (entry_ready c) $$ [Hpt Hp]
  · isplitl [Hpt] <;> iassumption
  ihave Hr := (Entails.of_eq (by_stage (fun s h => ready (F := F) c s h))) $$ Hr
  icases Hr with ⟨Hr0, Hr3, Hr4⟩
  ihave Ha := (acc_split c f0) $$ H0
  ihave Ho := (out_split c fo) $$ Ho
  iapply (loads_move m K c (devL c) (fun h => (devL_eq c h).1) (fun h => (devL_eq c h).2.1) (fun h => (devL_eq c h).2.2) pays2 _ Q) $$ [Hx Ha Hr0 HO]
  · isplitr; · iexact HR
    isplitl [Hx]; · iexact Hx
    isplitl [Ha]; · iexact Ha
    isplitl [Hr0] <;> iassumption
  iintro ⟨Hx, Hf, HO⟩
  iapply (sums_move m K c (devS c) (devS_eq c) pays3 above2 _ Q) $$ [Hf Hr3 HO]
  · isplitr; · iexact HR
    isplitl [Hf]; · iexact Hf
    isplitl [Hr3] <;> iassumption
  iintro ⟨Hv0, Hf, HO⟩
  iapply (adds_move m K c (devA c) (devA_eq c) pays4 above3 _ Q) $$ [Hf Hr4 HO]
  · isplitr; · iexact HR
    isplitl [Hf]; · iexact Hf
    isplitl [Hr4] <;> iassumption
  iintro ⟨Hv3, Hf, HO⟩
  iapply (lasts_move m K c pays4 above4 _ Q) $$ [Hf Ho HO]
  · isplitr; · iexact HR
    isplitl [Hf]; · iexact Hf
    isplitl [Ho] <;> iassumption
  iintro ⟨Hv4, Ha, Ho, HO⟩
  iapply (signals_move m K c _ _ _ _ _ x0 x1 x2 x3 x4 endS true rfl [] _ Q) $$ [Te HO]
  · isplitr; · iexact HR
    isplitl [Te]; · iexact Te
    isplitr
    · rw [over_slots, end_pays, end_pays, end_pays, end_pays, end_pays]
      isplitr; · iempintro
      isplitr; · iempintro
      isplitr; · iempintro
      isplitr <;> iempintro
    iexact HO
  iintro HO
  iapply (hear_move m K c endS true rfl [] (fun _ h => absurd h List.not_mem_nil) _ Q) $$ [Hae Hce HO]
  · isplitr; · iexact HR
    isplitl [Hae]; · iexact Hae
    isplitl [Hce] <;> iassumption
  iintro ⟨Hze, -, HO⟩
  ihave Hv := (Entails.of_eq (by_stage (fun s h => over (F := F) c s h)).symm) $$ [Hv0 Hv3 Hv4]
  · isplitl [Hv0]; · iexact Hv0
    isplitl [Hv3] <;> iassumption
  ihave Hv := (over_all c) $$ Hv
  icases Hv with ⟨Hz, Hl⟩
  ihave Ha := (acc_join c) $$ Ha
  ihave Ho := (out_join m c) $$ Ho
  unfold WP
  rw [wp_ret]
  imodintro
  iapply Hk
  isplitl [Ha Hl Hzb Hze Hz]
  · isplitl [Ha]; · iexact Ha
    isplitl [Hl]; · iexact Hl
    isplitl [Hzb]; · iexact Hzb
    isplitl [Hze] <;> iassumption
  isplitl [HO]; · iexact HO
  isplitl [Hx] <;> iassumption

end Cert.Butterfly

end
-- ==== Proof.Run.lean ====
/-
  The launch and the run.

  Every cell's invariant is allocated at launch, the tokens of the duties are dealt to the devices that pay them, and each
  device's credits are read off what the others owe it. `run_main` states the run of the whole program, for any float
  values: it terminates, the argument's array is unchanged, every device's result array holds `outAt`, and every
  semaphore is at zero.
-/
module

public import proofs.«01_k».proof.Proof.Body
public import proofs.«01_k».proof.Proof.Gen.KernelIdeal.Points
public import Idealize.ShloMosaic.Lib.Pipeline.CollectiveSegs

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's data -/

/-- Before the body: the device's part of the exchange. -/
def start (c : Dev nD) : sProp 𝕄 := iprop(∃ K, entryG m K c)
/-- With the scratch buffers, at any contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => exitG c
  q _ := fullShare
  owed t := match t with
    | ⟨0, _⟩ => owed c pays0
    | ⟨_ + 1, _⟩ => owed c []

/-! ## The body's obligation -/

/-- Buffer `b` whole, at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

/-- What the pipeline hands the body, -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it takes back. -/
def bodyPost (c : Dev nD) : sProp 𝕄 :=
  iprop(exitG c ∗ (dats m ρ 0 c).owesAt () t0_0.succ ∗ stg c cc0_stg0_0 (xstg m c) ∗ stg c cc0_stg1_0 (outAt m c))

set_option maxRecDepth 8000 in
/-- The body meets the pipeline's obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) aM (Memref.isWhole_whole _) rM (Memref.isWhole_whole _) cc0_scratch2 cc0_scratch3 cc0_scoped0) (fun _ => bodyPost m ρ c)
  rw [body_flat]
  simp only [wp_deviceId]
  unfold bodyPre Φ₀ start stg Dat.owesAt Pipeline.owesWithin
  iintro ⟨⟨⟨%K, HG⟩, ⟨%f0, H0⟩, ⟨%f1, H1⟩⟩, ⟨%W, -, HO⟩, ⟨%d0, %x, %ex, Hx⟩, ⟨%d1, %y, %ey, Ho⟩⟩
  have ex' : x = xstg m c := ex.trans (if_pos (fetch0_0 t0_0))
  subst ex'
  iapply (body_move m K c f0 f1 y (fun _ => bodyPost m ρ c)) $$ [HG H0 H1 HO Hx Ho]
  · isplitl [HG]; · iexact HG
    isplitl [H0]; · iexact H0
    isplitl [H1]; · iexact H1
    isplitl [HO]
    · unfold owesE; iexists W; iexact HO
    isplitl [Hx]; · unfold xPts; iexact Hx
    iexact Ho
  unfold owesE xPts
  iintro ⟨HG, ⟨%W', HO⟩, Hx, Ho⟩
  unfold bodyPost stg Dat.owesAt Pipeline.owesWithin
  isplitl [HG]; · iexact HG
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch -/

set_option maxRecDepth 8000 in
theorem ownSemFacts : Pipeline.OwnSemFacts cfg0.spec osem := by decide

theorem share_eq (c : Dev nD) (w : Fin cfg0.W) : (dats m ρ 0 c).share w = fullShare := by unfold Dat.share; split <;> rfl

/-- All the exchange's cells, -/
def allCells : Finset (GSem nD τ sig) := Finset.univ.map ⟨kcell, kcell_inj⟩
/-- and a token for every cell and duty name. -/
abbrev tokOf (x : Dev nD × CI × Fin 5) : GSem nD τ sig × ℕ × Fin 5 := (kcell (x.1, x.2.1), 0, x.2.2)
theorem tokOf_inj : Function.Injective tokOf := by
  rintro ⟨c, k, d⟩ ⟨c', k', d'⟩ e
  have h1 : (c, k) = (c', k') := kcell_inj (congrArg Prod.fst e)
  have h2 : d = d' := congrArg (fun x : GSem nD τ sig × ℕ × Fin 5 => x.2.2) e
  cases h1; subst h2; rfl
def allToks : Finset (GSem nD τ sig × ℕ × Fin 5) := Finset.univ.map ⟨tokOf, tokOf_inj⟩

def u₀ : UU :=
  (initOf (Pipeline.cells cfgs cellOf_inj) (Pipeline.launchToks cfgs cellOf_inj), initOf allCells allToks)

/-- The tokens of device `c`'s own cells. -/
def toks (c : Dev nD) : sProp 𝕄 := bigSep Finset.univ fun k : CI => bigSep Finset.univ fun d : Fin 5 => dutyTok ER (kcell (c, k)) 0 d

/-- What the launch deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

/-- The launch element gives every device its part. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cells by kind -/

omit [FloatOps F] in
theorem over_bool (Φ : Bool → sProp 𝕄) : bigSep Finset.univ Φ = iprop(Φ false ∗ Φ true) := bigSep_univ_eq_bigSepL [false, true] (by decide) (by decide) Φ
omit [FloatOps F] in
/-- The exchange's cells of a device, chunk by chunk and slot by slot. -/
theorem over_exchange (Φ : XI → sProp 𝕄) :
    bigSep Finset.univ Φ = bigSep Finset.univ fun h : Fin 4 => bigSep Finset.univ fun s : Fin 5 => iprop(Φ (h, s, false) ∗ Φ (h, s, true)) := by
  rw [bigSep_univ_prod]
  refine bigSep_congr fun h _ => ?_
  rw [bigSep_univ_prod]
  exact bigSep_congr fun s _ => over_bool (fun b => Φ (h, s, b))
omit [FloatOps F] in
/-- All of its cells: the barrier's, the closing handshake's, the exchange's. -/
theorem over_cells (Φ : CI → sProp 𝕄) :
    bigSep Finset.univ Φ = iprop((Φ (.inl false) ∗ Φ (.inl true))
      ∗ bigSep Finset.univ fun h : Fin 4 => bigSep Finset.univ fun s : Fin 5 => iprop(Φ (.inr (h, s, false)) ∗ Φ (.inr (h, s, true)))) := by
  rw [bigSep_univ_sum, over_bool, over_exchange]; rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
theorem over_unit (Φ : Unit → sProp 𝕄) : bigSep Finset.univ Φ = Φ () := by
  rw [show (Finset.univ : Finset Unit) = {()} from rfl, bigSep_singleton]
omit [FloatOps F] in
theorem ownSems0_eq (c : Dev nD) : (Pipeline.ownSems0 (Ix := Unit) (Name := ℕ) (U := UU) (Lvl := ℕ) (Val := Elt F) (τ := τ) osem c : sProp 𝕄)
    = iprop(semVal (endC c) 0 ∗ bigSep Finset.univ fun h : Fin 4 => bigSep Finset.univ fun s : Fin 5 => zer c s h) := by
  unfold Pipeline.ownSems0
  rw [bigSep_univ_sum, over_unit, over_exchange]
  rfl

omit [FloatOps F] in
/-- The launch's semaphores are the cells'. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, over_cells]
  iintro ⟨⟨He, Hx⟩, Hb⟩
  isplitl [He Hb]
  · isplitl [Hb]; · iexact Hb
    iexact He
  iexact Hx

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt -/

omit [FloatOps F] in
/-- Going to the peer permutes a product over devices and slots. -/
theorem around (Φ : Fin 5 → Dev nD → sProp 𝕄) :
    (bigSep Finset.univ fun c : Dev nD => bigSep Finset.univ fun s : Fin 5 => Φ s c)
      = bigSep Finset.univ fun c : Dev nD => bigSep Finset.univ fun s : Fin 5 => Φ s (peer s c) := by
  rw [bigSep_univ_comm (fun (c : Dev nD) (s : Fin 5) => Φ s c), bigSep_univ_comm (fun (c : Dev nD) (s : Fin 5) => Φ s (peer s c))]
  exact bigSep_congr fun s _ => bigSep_univ_equiv (peerE s) (Φ s)

/-- The tokens of a device's cells that name a duty; -/
def ownToks (c : Dev nD) : sProp 𝕄 :=
  iprop((bigSep Finset.univ fun s : Fin 5 => dutyTok ER (barC c) 0 s) ∗ (bigSep Finset.univ fun s : Fin 5 => dutyTok ER (endC c) 0 s)
    ∗ (bigSep Finset.univ fun h : Fin 4 => bigSep Finset.univ fun s : Fin 5 => dutyTok ER (sndC c s h) 0 0)
    ∗ (bigSep Finset.univ fun h : Fin 4 => bigSep Finset.univ fun s : Fin 5 => dutyTok ER (rcvC c s h) 0 0))
/-- of the duties that the device pays. -/
def payToks (c : Dev nD) : sProp 𝕄 :=
  iprop((bigSep Finset.univ fun s : Fin 5 => dutyTok ER (barC (peer s c)) 0 s) ∗ (bigSep Finset.univ fun s : Fin 5 => dutyTok ER (endC (peer s c)) 0 s)
    ∗ (bigSep Finset.univ fun h : Fin 4 => bigSep Finset.univ fun s : Fin 5 => dutyTok ER (sndC c s h) 0 0)
    ∗ (bigSep Finset.univ fun h : Fin 4 => bigSep Finset.univ fun s : Fin 5 => dutyTok ER (rcvC (peer s c) s h) 0 0))

omit [FloatOps F] in
theorem toks_own (c : Dev nD) : (toks c : sProp 𝕄) ⊢ ownToks c := by
  unfold toks ownToks
  rw [over_cells]
  have h1 : (bigSep Finset.univ fun h : Fin 4 => bigSep Finset.univ fun s : Fin 5 =>
      iprop((bigSep Finset.univ fun d : Fin 5 => dutyTok ER (kcell (c, .inr (h, s, false))) 0 d) ∗ (bigSep Finset.univ fun d : Fin 5 => dutyTok ER (kcell (c, .inr (h, s, true))) 0 d)))
      ⊢ (bigSep Finset.univ fun h : Fin 4 => bigSep Finset.univ fun s : Fin 5 => iprop(dutyTok ER (sndC c s h) 0 0 ∗ dutyTok ER (rcvC c s h) 0 0) : sProp 𝕄) :=
    bigSep_mono fun h _ => bigSep_mono fun s _ => sep_mono
      (bigSep_elim (Φ := fun d : Fin 5 => (dutyTok ER (sndC c s h) 0 d : sProp 𝕄)) (Finset.mem_univ 0))
      (bigSep_elim (Φ := fun d : Fin 5 => (dutyTok ER (rcvC c s h) 0 d : sProp 𝕄)) (Finset.mem_univ 0))
  have h2 : (bigSep Finset.univ fun h : Fin 4 => bigSep Finset.univ fun s : Fin 5 => iprop(dutyTok ER (sndC c s h) 0 0 ∗ dutyTok ER (rcvC c s h) 0 0) : sProp 𝕄)
      = iprop((bigSep Finset.univ fun h : Fin 4 => bigSep Finset.univ fun s : Fin 5 => dutyTok ER (sndC c s h) 0 0)
        ∗ (bigSep Finset.univ fun h : Fin 4 => bigSep Finset.univ fun s : Fin 5 => dutyTok ER (rcvC c s h) 0 0)) := by
    rw [← bigSep_sep']; exact bigSep_congr fun h _ => bigSep_sep' _ _ _
  iintro ⟨⟨Hb, He⟩, Hx⟩
  isplitl [Hb]; · iexact Hb
  isplitl [He]; · iexact He
  ihave Hx := h1 $$ Hx
  iapply (Entails.of_eq h2) $$ Hx

omit [FloatOps F] in
/-- The tokens go from the cells' devices to the devices that pay. -/
theorem toks_around : (bigSep Finset.univ fun c : Dev nD => (toks c : sProp 𝕄)) ⊢ bigSep Finset.univ fun c : Dev nD => payToks c := by
  refine (show (bigSep Finset.univ fun c : Dev nD => (toks c : sProp 𝕄)) ⊢ bigSep Finset.univ fun c : Dev nD => ownToks c from bigSep_mono fun c _ => toks_own c).trans ?_
  refine (Entails.of_eq ?_ : (_ : sProp 𝕄) ⊢ _)
  unfold ownToks payToks
  rw [bigSep_sep', bigSep_sep', bigSep_sep', bigSep_sep', bigSep_sep', bigSep_sep',
    around (fun s c => (dutyTok ER (barC c) 0 s : sProp 𝕄)), around (fun s c => (dutyTok ER (endC c) 0 s : sProp 𝕄)),
    bigSep_univ_comm (fun (c : Dev nD) (h : Fin 4) => (bigSep Finset.univ fun s : Fin 5 => dutyTok ER (rcvC c s h) 0 0 : sProp 𝕄)),
    bigSep_univ_comm (fun (c : Dev nD) (h : Fin 4) => (bigSep Finset.univ fun s : Fin 5 => dutyTok ER (rcvC (peer s c) s h) 0 0 : sProp 𝕄)),
    bigSep_congr (s := Finset.univ) (fun (h : Fin 4) _ => around (fun s c => (dutyTok ER (rcvC c s h) 0 0 : sProp 𝕄)))]

/-! ### The global step -/

/-- All cells' invariants, and that all have begun. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)
instance records_persistent (K : Dev nD × CI → ℕ) : BI.Persistent (records m K) := by unfold records; infer_instance

/-- A device's positions and the tokens of the duties it pays. -/
def linear (c : Dev nD) : sProp 𝕄 := iprop((bigSep Finset.univ fun k : CI => atPos ER (kcell (c, k)) 0 ∅ 0) ∗ payToks c)
/-- What the global step makes of a device's part. -/
def G' (c : Dev nD) : sProp 𝕄 := iprop(∃ K, records m K ∗ linear c)

omit [FloatOps F] in
/-- Knowledge shared by all goes with each part. -/
theorem share_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem part_intro (K : Dev nD × CI → ℕ) (c : Dev nD) : iprop(records m K ∗ linear c) ⊢ G' m c := by
  unfold G'; iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (share_all (R := records m K) fun c _ => part_intro m K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- The credits that device `c` gets for a list of payments, one from each peer. -/
def credsOf (c : Dev nD) : List Pay → sProp 𝕄
  | [] => iprop(emp)
  | x :: l => iprop(cred (tallyAt ((c : Thread nD τ), x.2.1) () x.2.2) ∗ credsOf c l)

omit [FloatOps F] in
/-- Every device owing the same list to its peers, each gets a credit for every payment. -/
theorem creds_list (c : Dev nD) (l : List Pay) : (Pipeline.launchCred (fun d => owed d l) c : sProp 𝕄) ⊢ credsOf c l := by
  induction l with
  | nil => exact Entails.of_eq (Pipeline.launchCred_zero c)
  | cons x l ih =>
    refine (Entails.of_eq (Pipeline.launchCred_add (fun d => owed d l) (fun d => tallyAt ((peer x.1 d : Thread nD τ), x.2.1) () x.2.2) c)).trans ?_
    unfold credsOf
    refine (BIClass.sep_mono ih (Pipeline.launchCred_tallyAt x.2.1 (peer x.1) (peer x.1) (peer_peer x.1) (peer_peer x.1) () x.2.2 c)).trans ?_
    iintro ⟨H1, H2⟩
    isplitl [H2] <;> iassumption

omit [FloatOps F] in
theorem cred_join (g : GSem nD τ sig) (a b : ℕ) : (iprop(cred (tallyAt g () a) ∗ cred (tallyAt g () b)) : sProp 𝕄) ⊢ cred (tallyAt g () (a + b)) := by
  rw [← tallyAt_add]; exact (cred_add _ _).2
omit [FloatOps F] in
/-- Five credits of one. -/
theorem cred_five (g : GSem nD τ sig) :
    (iprop(cred (tallyAt g () 1) ∗ cred (tallyAt g () 1) ∗ cred (tallyAt g () 1) ∗ cred (tallyAt g () 1) ∗ cred (tallyAt g () 1)) : sProp 𝕄) ⊢ cred (tallyAt g () 5) :=
  (sep_mono_right ((sep_mono_right ((sep_mono_right (cred_join g 1 1)).trans (cred_join g 1 2))).trans (cred_join g 1 3))).trans (cred_join g 1 4)

omit [FloatOps F] in
/-- A device's credits at launch: five for each handshake, and one transfer's for every slot and chunk. -/
theorem creds (c : Dev nD) :
    (Pipeline.launchCred (fun d => owed d pays0) c : sProp 𝕄) ⊢ iprop(cred (tallyAt (barC c) () 5) ∗ cred (tallyAt (endC c) () 5)
      ∗ bigSep Finset.univ fun h : Fin 4 => bigSep Finset.univ fun s : Fin 5 => cred (tallyAt (rcvC c s h) () N)) := by
  refine (creds_list c pays0).trans ?_
  rw [by_stage (fun s h => (cred (tallyAt (rcvC c s h) () N) : sProp 𝕄)), over_chunks, over_chunks, over_chunks]
  simp only [credsOf]
  iintro ⟨b0, b1, b2, b3, b4, r00, r10, r20, r01, r11, r21, r02, r12, r22, r03, r13, r23, r30, r31, r32, r33, r40, r41, r42, r43, e0, e1, e2, e3, e4, -⟩
  isplitl [b0 b1 b2 b3 b4]
  · iapply (cred_five (F := F) (barC c))
    isplitl [b0]; · iexact b0
    isplitl [b1]; · iexact b1
    isplitl [b2]; · iexact b2
    isplitl [b3] <;> iassumption
  isplitl [e0 e1 e2 e3 e4]
  · iapply (cred_five (F := F) (endC c))
    isplitl [e0]; · iexact e0
    isplitl [e1]; · iexact e1
    isplitl [e2]; · iexact e2
    isplitl [e3] <;> iassumption
  isplitl [r00 r10 r20 r01 r11 r21 r02 r12 r22 r03 r13 r23]
  · isplitl [r00 r10 r20]
    · isplitl [r00]; · iexact r00
      isplitl [r10] <;> iassumption
    isplitl [r01 r11 r21]
    · isplitl [r01]; · iexact r01
      isplitl [r11] <;> iassumption
    isplitl [r02 r12 r22]
    · isplitl [r02]; · iexact r02
      isplitl [r12] <;> iassumption
    isplitl [r03]; · iexact r03
    isplitl [r13] <;> iassumption
  isplitl [r30 r31 r32 r33]
  · isplitl [r30]; · iexact r30
    isplitl [r31]; · iexact r31
    isplitl [r32] <;> iassumption
  isplitl [r40]; · iexact r40
  isplitl [r41]; · iexact r41
  isplitl [r42] <;> iassumption

/-! ### The region's conditions -/

omit [FloatOps F] in
/-- A transfer's positions, tokens and credit, chunk by chunk. -/
theorem pos_tok (c : Dev nD) :
    (iprop((bigSep Finset.univ fun h : Fin 4 => bigSep Finset.univ fun s : Fin 5 => iprop(atPos ER (sndC c s h) 0 ∅ 0 ∗ atPos ER (rcvC c s h) 0 ∅ 0))
        ∗ (bigSep Finset.univ fun h : Fin 4 => bigSep Finset.univ fun s : Fin 5 => cred (tallyAt (rcvC c s h) () N))
        ∗ (bigSep Finset.univ fun h : Fin 4 => bigSep Finset.univ fun s : Fin 5 => dutyTok ER (sndC c s h) 0 0)
        ∗ (bigSep Finset.univ fun h : Fin 4 => bigSep Finset.univ fun s : Fin 5 => dutyTok ER (rcvC (peer s c) s h) 0 0)) : sProp 𝕄)
      ⊢ bigSep Finset.univ fun h : Fin 4 => bigSep Finset.univ fun s : Fin 5 => iprop(pos c s h ∗ tok c s h) := by
  rw [← bigSep_sep', ← bigSep_sep', ← bigSep_sep']
  refine bigSep_mono fun h _ => ?_
  rw [← bigSep_sep', ← bigSep_sep', ← bigSep_sep']
  refine bigSep_mono fun s _ => ?_
  unfold pos tok
  show (_ : sProp 𝕄) ⊢ _
  iintro ⟨⟨H1, H2⟩, H3, H4⟩
  isplitl [H1 H2 H3]
  · isplitl [H1]; · iexact H1
    isplitl [H2] <;> iassumption
  iexact H4

theorem start_intro (c : Dev nD) :
    iprop(Pipeline.unscopedRestP Pipeline.Prefetch.none cfg0.spec c (fun b => m ((c : Thread nD τ).loc b)) ∗ levAts L lv
        ∗ Pipeline.launchCred (fun d => owed d pays0) c ∗ prngReg c (ρ c) ∗ G' m c)
      ⊢ |={Set.univ}=> iprop(start m c ∗ emp) := by
  unfold G' linear payToks
  rw [over_cells]
  iintro ⟨-, #Hlev, Hcr, -, ⟨%K, #HR, ⟨⟨Hab, Hae⟩, Hax⟩, Hb, He, Hs, Hr⟩⟩
  ihave Hc := (creds (F := F) c) $$ Hcr
  icases Hc with ⟨Hcb, Hce, Hcx⟩
  imodintro
  unfold start entryG recs records
  isplitl
  · iexists K
    icases HR with ⟨#HI, #HA⟩
    isplitr
    · isplitr; · iexact HI
      isplitr; · iexact HA
      iexact Hlev
    isplitl [Hab Hcb]
    · isplitl [Hab]; · iexact Hab
      iexact Hcb
    isplitl [Hae Hce]
    · isplitl [Hae]; · iexact Hae
      iexact Hce
    isplitl [Hb]; · iexact Hb
    isplitl [He]; · iexact He
    iapply (pos_tok (F := F) c)
    isplitl [Hax]; · iexact Hax
    isplitl [Hcx]; · iexact Hcx
    isplitl [Hs] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = exitG c from rfl, scopedRest0_eq, ownSems0_eq, unscopedSems0_eq]
  unfold exitG
  iintro ⟨H0, H1, Hb, He, Hz⟩
  isplitl [Hb]; · iexact Hb
  isplitl [He Hz]
  · isplitl [He] <;> iassumption
  isplitl [H0] <;> iassumption

/-- The staging copies may be waited for at any time. -/
theorem mayWait_stage (c : Dev nD) (q : DmaSem sig) (hq : lvS (.dma q) = 0) (O : CellTallies nD τ sig Unit) (hO : O = owed c pays0 ∨ O = owed c []) :
    (levAts L lv : sProp 𝕄) ⊢ MayWait (c : Thread nD τ) (.dma q) () O := by
  rcases hO with rfl | rfl
  · exact mayWait c _ _ (by rw [hq]; decide)
  · exact mayWait c _ _ (fun _ h => absurd h List.not_mem_nil)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, for any float values, from any memory with all counters at zero: every weakly fair execution of
    the program terminates, with each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d pays0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds after the run what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Butterfly

end
-- ==== Proof.Ref.lean ====
/-
  The value of the reference.

  Read over the extended reals, the reference's result at an index is one function, `act`, of the sum of the argument's
  sixteen blocks there.
-/
module

public import proofs.«01_k».proof.Proof.Gen.ReferenceIdeal.Run
public import Idealize.ShloMosaic.Lib.IdealHost
public import Idealize.ShloMosaic.Lib.Layout
public import Idealize.ShloMosaic.Lib.Pipeline.Value
public import Idealize.ShloMosaic.Lib.Pointwise.Reduce

@[expose] public section

noncomputable section

namespace Cert.Butterfly

open Cert.ReferenceIdeal Cert.ReferenceIdeal.Gen
open Idealize.ShloMosaic

/-- The function both programs apply to the sum. -/
def act (s : EReal) : EReal := Ideal.tanh s * s * s + max s 0 * max s 0 * max s 0

/-- The reference's reshape followed by its sum, at an index: the sum of the sixteen blocks there. -/
theorem ref_sum (w : S8192x256.Idx → EReal) (hc : S8192x256.ShapeCasts S16x512x256)
    (hr : S16x512x256.ReducesTo [0] S512x256) (i : S512x256.Idx) :
    Ideal.hostReduceAdd hr (shapeCast _ w hc) 0 i
      = ∑ d : Fin 16, (Layout.block ⟨2, ![512, 256]⟩ ⟨2, ![8192, 256]⟩ 0 16 d w : (⟨2, ![512, 256]⟩ : Shape).Idx → EReal) i := by
  rw [Ideal.hostReduceAdd_r3_a0, zero_add]
  refine Finset.sum_congr rfl fun d _ => ?_
  rw [Layout.block_apply]
  refine shapeCast_apply _ _ _ _ ?_
  rw [Shape.rowMajor_val_two, Shape.rowMajor_val_three]
  rfl

/-- The reference's result at an index: the same function of the sum of the sixteen blocks there. -/
theorem ref_apply (w : S8192x256.Idx → EReal) (S : FVec Ideal S512x256 .bf16) (i : S512x256.Idx)
    (hS : S = truncf .bf16 (Host.reduceAdd (extf .f32 (shapeCast _ (w : FVec Ideal _ .bf16) shapeCasts_S8192x256_S16x512x256) bitsLt_bf16_f32)
      (constant S_ .f32 0x00000000#32) reducesTo_S16x512x256_S512x256_d0 h_S_) bitsLt_bf16_f32) :
    (extf .f32 (addf (mulf (mulf (Host.tanh S) S) S)
        (mulf (mulf (maximumf S (broadcastInDim S512x256 ![] bcast_S_S512x256 (constant S_ .bf16 0x0000#16)))
            (maximumf S (broadcastInDim S512x256 ![] bcast_S_S512x256 (constant S_ .bf16 0x0000#16))))
          (maximumf S (broadcastInDim S512x256 ![] bcast_S_S512x256 (constant S_ .bf16 0x0000#16))))) bitsLt_bf16_f32
        : FVec Ideal S512x256 .f32) i
      = act (∑ d : Fin 16, (Layout.block ⟨2, ![512, 256]⟩ ⟨2, ![8192, 256]⟩ 0 16 d w : (⟨2, ![512, 256]⟩ : Shape).Idx → EReal) i) := by
  have hz : (FloatOps.ofBits (F := Ideal) .bf16 0x0000#16 : EReal) = 0 := Ideal.ofBits_zero_bf16
  have hS' : S i = ∑ d : Fin 16, (Layout.block ⟨2, ![512, 256]⟩ ⟨2, ![8192, 256]⟩ 0 16 d w : (⟨2, ![512, 256]⟩ : Shape).Idx → EReal) i := by
    rw [← ref_sum w shapeCasts_S8192x256_S16x512x256 reducesTo_S16x512x256_S512x256_d0 i, ← Ideal.ofBits_zero_f32, hS]
    rfl
  rw [← hS']
  unfold act
  rw [← hz]
  rfl

end Cert.Butterfly

end
-- ==== Proof.Value.lean ====
/-
  The value of the result.

  Read over the extended reals: every device's result array holds, at every index, one function of the sum of the sixteen
  devices' arguments there, the one the reference applies. The exchange's own work is `butterfly_sum`: what the three stages
  add up on any device is the sum over all sixteen.
-/
module

public import proofs.«01_k».proof.Proof.Run
public import proofs.«01_k».proof.Proof.Ref

@[expose] public section

noncomputable section

namespace Cert.Butterfly

open Cert.KernelIdeal Cert.KernelIdeal.Gen
open Idealize.ShloMosaic Idealize.ShloMosaic.TcCoe

/-! ## The stages of the exchange add up to the whole sum -/

section Butterfly

variable {α : Type} [AddCommMonoid α]

/-- What the first stage leaves on device `c`: its own value and those of the three others in its group of four. -/
def stage1 (f : Dev nD → α) (c : Dev nD) : α := f c + f (peer 0 c) + f (peer 1 c) + f (peer 2 c)
/-- What an exchange with the peer in slot `s` leaves. -/
def pairUp (s : Fin 5) (f : Dev nD → α) (c : Dev nD) : α := f c + f (peer s c)
/-- What the three stages leave on device `c`. -/
def butterfly (f : Dev nD → α) (c : Dev nD) : α := pairUp 4 (pairUp 3 (stage1 f)) c

/-- The device whose number is the bitwise difference of two devices' numbers. -/
def xorDev (c d : Dev nD) : Dev nD := ⟨(c.val ^^^ d.val) % 16, Nat.mod_lt _ (by decide)⟩
theorem xorDev_xorDev (c d : Dev nD) : xorDev c (xorDev c d) = d := by revert c d; decide
theorem peer_xorDev (s : Fin 5) (c d : Dev nD) : peer s (xorDev c d) = xorDev c (peer s d) := by revert s c d; decide
theorem xorDev_zero (c : Dev nD) : xorDev c 0 = c := by revert c; decide

/-- On device 0 the stages add up every device's value. -/
theorem butterfly_zero (f : Dev nD → α) : butterfly f 0 = ∑ d, f d := by
  have e : ∑ d, f d = f 0 + f 1 + f 2 + f 3 + f 4 + f 5 + f 6 + f 7 + f 8 + f 9 + f 10 + f 11 + f 12 + f 13 + f 14 + f 15 := by
    iterate 8 rw [Fin.sum_univ_castSucc]
    rw [Fin.sum_univ_eight]
    rfl
  have p : butterfly f 0 = (((f 0 + f 1 + f 3 + f 2) + (f 4 + f 5 + f 7 + f 6)) + ((f 8 + f 9 + f 11 + f 10) + (f 12 + f 13 + f 15 + f 14))) := rfl
  rw [e, p]
  abel

/-- The exchange looks the same from every device, once the devices are renumbered from it. -/
theorem butterfly_shift (f : Dev nD → α) (c d : Dev nD) : butterfly f (xorDev c d) = butterfly (fun e => f (xorDev c e)) d := by
  unfold butterfly pairUp stage1
  simp only [peer_xorDev]

/-- On every device the stages add up every device's value. -/
theorem butterfly_sum (f : Dev nD → α) (c : Dev nD) : butterfly f c = ∑ d, f d := by
  have h := butterfly_shift f c 0
  rw [xorDev_zero] at h
  rw [h, butterfly_zero]
  exact Equiv.sum_comp (⟨xorDev c, xorDev c, xorDev_xorDev c, xorDev_xorDev c⟩ : Dev nD ≃ Dev nD) f

end Butterfly

/-! ## The kernel's side -/

section Kernel

variable {F : FTy → Type} [FloatOps F]
variable (m : (ℓ : Loc nD τ sig) → Buf (Elt F) ℓ) (ρ : Dev nD → PrngReg)

/-- The staged argument is the argument's array. -/
theorem xstg_whole (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result's array holds `outAt` after the run. -/
theorem finalA_o (c : Dev nD) : finalA m ρ c (1 : Fin 2) = outAt m c := by
  have hz : (fun a => (win0_1.index (0 : Fin 1)) a * main_v1.ty.shape.size a) = fun _ => 0 :=
    funext fun a => by fin_cases a <;> decide
  have h : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 hz (fun a => by fin_cases a <;> decide) _).symm.trans h

/-- Before the exchange, the running sum at an index of the array is the argument there. -/
theorem B_start (c : Dev nD) (i : S512x256.Idx) : B m 0 c (chOf i) (posOf i) = m ((c : Thread nD τ).loc main_arg0) i := by
  rw [B_zero, xstg_whole]
  show m ((c : Thread nD τ).loc main_arg0) ((rectA (chOf i)).emb (posOf i)) = _
  rw [emb_posOf]

end Kernel

/-! ## Over the extended reals -/

section Ideals

variable (m : (ℓ : Loc nD τ sig) → Buf (Elt Ideal) ℓ) (ρ : Dev nD → PrngReg)

/-- The argument of each device at an index. -/
def argAt (i : S512x256.Idx) (d : Dev nD) : EReal := m ((d : Thread nD τ).loc main_arg0) i

/-- After the exchange, the running sum at an index is the sum of all devices' arguments there. -/
theorem B_end (c : Dev nD) (i : S512x256.Idx) : B m 3 c (chOf i) (posOf i) = ∑ d, argAt m i d := by
  have h1 : ∀ d, B m 1 d (chOf i) (posOf i) = stage1 (argAt m i) d := fun d => by
    rw [B_one]
    show B m 0 d _ _ + B m 0 _ _ _ + B m 0 _ _ _ + B m 0 _ _ _ = (_ : EReal)
    rw [B_start, B_start, B_start, B_start]; rfl
  have h2 : ∀ d, B m 2 d (chOf i) (posOf i) = pairUp 3 (stage1 (argAt m i)) d := fun d => by
    rw [B_two]
    show B m 1 d _ _ + B m 1 _ _ _ = (_ : EReal)
    rw [h1, h1]; rfl
  rw [← butterfly_sum _ c, B_three]
  show B m 2 c _ _ + B m 2 _ _ _ = (_ : EReal)
  rw [h2, h2]; rfl

/-- The kernel's result at an index. -/
theorem outAt_apply (c : Dev nD) (i : S512x256.Idx) : outAt m c i = act (∑ d, argAt m i d) := by
  have hz : (FloatOps.ofBits (F := Ideal) .f32 0x00000000#32 : EReal) = 0 := Ideal.ofBits_zero_f32
  rw [← B_end m c i]
  unfold outAt outC act k0_pay19
  rw [← hz]
  rfl

end Ideals

end Cert.Butterfly

end
-- ==== Proof.lean ====
/-
  The proof of the claims.

  The run of the kernel is `Cert.Butterfly.run_main` (Proof/Run.lean), written once for any float values: the kernel's own
  claim is its reading at the bit patterns, the idealized kernel's at the extended reals. The values on the two sides meet in
  `Cert.Butterfly.act` of the sum of the sixteen blocks (Proof/Ref.lean, Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem
open Cert.Butterfly

/-- The two printed programs call the same bodies. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun x => ?_)
  obtain ⟨ℓ, hℓ⟩ := ℓ
  match ℓ, hℓ, x with
  | 0, _, (_, _) => rfl

/-- So they have the same body table. -/
theorem defs_eq : Cert.Kernel.defs (F := Bits) = Cert.KernelIdeal.defs (F := Bits) :=
  congrArg (Pipeline.defs Cert.KernelIdeal.pcfgs) bodies_eq

/-- The kernel at the bit patterns: it terminates, leaves its argument unchanged and every counter at zero. -/
theorem frame_kernel : Cert.quiescent_Kernel := by
  intro m g _
  have h : θ_run (Cert.KernelIdeal.defs (F := Bits)) (onTc (τ := Cert.KernelIdeal.τ) (Cert.KernelIdeal.main (F := Bits))) (s₀ (F := Bits) m g) (fun r =>
      (∀ c : Dev Cert.KernelIdeal.nD, r.2.mem ((c.tc : Thread Cert.KernelIdeal.nD Cert.KernelIdeal.τ).loc Cert.KernelIdeal.main_arg0)
        = (m : (ℓ : Loc Cert.KernelIdeal.nD Cert.KernelIdeal.τ Cert.KernelIdeal.sig) → Buf (Elt Bits) ℓ) ((c.tc : Thread Cert.KernelIdeal.nD Cert.KernelIdeal.τ).loc Cert.KernelIdeal.main_arg0))
      ∧ r.2.sem = fun _ => 0) :=
    (θ_run (Cert.KernelIdeal.defs (F := Bits)) _ _).mono
      (fun _ h => ⟨fun c => (h.1 c (0 : Fin 2)).trans (finalA_x m g c), h.2⟩) (run_main (F := Bits) m g)
  rw [← defs_eq] at h
  exact h

/-- The kernel at the extended reals: it terminates, leaves its argument unchanged and every counter at zero. -/
theorem frame_kernelIdeal : Cert.quiescent_KernelIdeal := fun m g _ =>
  (θ_run (Cert.KernelIdeal.defs (F := Ideal)) _ _).mono
    (fun _ h => ⟨fun c => (h.1 c (0 : Fin 2)).trans (finalA_x m g c), h.2⟩) (run_main (F := Ideal) m g)

/-- The reference at the extended reals: it terminates and leaves its argument unchanged; it declares no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- At the extended reals every device's result is the reference's: both are `act` of the sum of the sixteen blocks. -/
theorem algebraic : Cert.algebraic_KernelIdeal_ReferenceIdeal := by
  intro m g m' g' _ hagree
  refine ⟨fun i => act (∑ d : Fin 16, (Layout.block ⟨2, ![512, 256]⟩ ⟨2, ![8192, 256]⟩ 0 16 d
    (m' (((0 : Dev Cert.ReferenceIdeal.nD).tc : Thread Cert.ReferenceIdeal.nD Cert.ReferenceIdeal.τ).loc Cert.ReferenceIdeal.main_arg0))
      : (⟨2, ![512, 256]⟩ : Shape).Idx → EReal) i), ?_, ?_⟩
  · refine (θ_run (Cert.KernelIdeal.defs (F := Ideal)) _ _).mono
      (fun _ h c => ⟨(h.1 c (1 : Fin 2)).trans ((finalA_o m g c).trans (funext fun i => ?_)), (h.1 c (0 : Fin 2)).trans (finalA_x m g c)⟩)
      (run_main (F := Ideal) m g)
    refine (outAt_apply m c i).trans (congrArg act (Finset.sum_congr rfl fun d _ => ?_))
    exact congrFun (hagree d) i
  · exact (θ_run (Cert.ReferenceIdeal.defs (F := Ideal)) _ _).mono
      (fun _ h => ⟨(h 0).1.trans (funext fun i => ref_apply _ _ i rfl), (h 0).2⟩) (Cert.ReferenceIdeal.Value.run (F := Ideal) m' g')

/-- All the claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
